-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v10)) (v6 : (c : Dev Cert.KernelIdeal.nD) → Buf (Elt Ideal) ((c.tc : Thread Cert.KernelIdeal.nD Cert.KernelIdeal.τ).loc Cert.KernelIdeal.main_v11)) (v7 : (c : Dev Cert.KernelIdeal.nD) → Buf (Elt Ideal) ((c.tc : Thread Cert.KernelIdeal.nD Cert.KernelIdeal.τ).loc Cert.KernelIdeal.main_v13)) (v8 : (c : Dev Cert.KernelIdeal.nD) → Buf (Elt Ideal) ((c.tc : Thread Cert.KernelIdeal.nD Cert.KernelIdeal.τ).loc Cert.KernelIdeal.main_v14)) (v9 : (c : Dev Cert.KernelIdeal.nD) → Buf (Elt Ideal) ((c.tc : Thread Cert.KernelIdeal.nD Cert.KernelIdeal.τ).loc Cert.KernelIdeal.main_v16)) (v10 : (c : Dev Cert.KernelIdeal.nD) → Buf (Elt Ideal) ((c.tc : Thread Cert.KernelIdeal.nD Cert.KernelIdeal.τ).loc Cert.KernelIdeal.main_v17)) (v11 : (c : Dev Cert.KernelIdeal.nD) → Buf (Elt Ideal) ((c.tc : Thread Cert.KernelIdeal.nD Cert.KernelIdeal.τ).loc Cert.KernelIdeal.main_v19)) (v12 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_v11) = v6 c
          ∧ r.2.mem ((c.tc : Thread Cert.KernelIdeal.nD Cert.KernelIdeal.τ).loc Cert.KernelIdeal.main_v13) = v7 c
          ∧ r.2.mem ((c.tc : Thread Cert.KernelIdeal.nD Cert.KernelIdeal.τ).loc Cert.KernelIdeal.main_v14) = v8 c
          ∧ r.2.mem ((c.tc : Thread Cert.KernelIdeal.nD Cert.KernelIdeal.τ).loc Cert.KernelIdeal.main_v16) = v9 c
          ∧ r.2.mem ((c.tc : Thread Cert.KernelIdeal.nD Cert.KernelIdeal.τ).loc Cert.KernelIdeal.main_v17) = v10 c
          ∧ r.2.mem ((c.tc : Thread Cert.KernelIdeal.nD Cert.KernelIdeal.τ).loc Cert.KernelIdeal.main_v19) = v11 c
          ∧ r.2.mem ((c.tc : Thread Cert.KernelIdeal.nD Cert.KernelIdeal.τ).loc Cert.KernelIdeal.main_v20) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v17_3) = v2 c
          ∧ r.2.mem ((c.tc : Thread Cert.ReferenceIdeal.nD Cert.ReferenceIdeal.τ).loc Cert.ReferenceIdeal.main_v17_2) = v3 c
          ∧ r.2.mem ((c.tc : Thread Cert.ReferenceIdeal.nD Cert.ReferenceIdeal.τ).loc Cert.ReferenceIdeal.main_v22_3) = v4 c
          ∧ r.2.mem ((c.tc : Thread Cert.ReferenceIdeal.nD Cert.ReferenceIdeal.τ).loc Cert.ReferenceIdeal.main_v22_2) = v5 c
          ∧ r.2.mem ((c.tc : Thread Cert.ReferenceIdeal.nD Cert.ReferenceIdeal.τ).loc Cert.ReferenceIdeal.main_v27_3) = v6 c
          ∧ r.2.mem ((c.tc : Thread Cert.ReferenceIdeal.nD Cert.ReferenceIdeal.τ).loc Cert.ReferenceIdeal.main_v27_2) = v7 c
          ∧ r.2.mem ((c.tc : Thread Cert.ReferenceIdeal.nD Cert.ReferenceIdeal.τ).loc Cert.ReferenceIdeal.main_v32_3) = v8 c
          ∧ r.2.mem ((c.tc : Thread Cert.ReferenceIdeal.nD Cert.ReferenceIdeal.τ).loc Cert.ReferenceIdeal.main_v32_2) = v9 c
          ∧ r.2.mem ((c.tc : Thread Cert.ReferenceIdeal.nD Cert.ReferenceIdeal.τ).loc Cert.ReferenceIdeal.main_v37_3) = v10 c
          ∧ r.2.mem ((c.tc : Thread Cert.ReferenceIdeal.nD Cert.ReferenceIdeal.τ).loc Cert.ReferenceIdeal.main_v37_2) = v11 c
          ∧ r.2.mem ((c.tc : Thread Cert.ReferenceIdeal.nD Cert.ReferenceIdeal.τ).loc Cert.ReferenceIdeal.main_v42_3) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x63 : Shape := ⟨2, ![131072, 63]⟩
abbrev S64x1 : Shape := ⟨2, ![64, 1]⟩
abbrev S6x1 : Shape := ⟨2, ![6, 1]⟩
abbrev S6x64 : Shape := ⟨2, ![6, 64]⟩
abbrev S63x131072 : Shape := ⟨2, ![63, 131072]⟩
abbrev S64x1x1 : Shape := ⟨3, ![64, 1, 1]⟩
abbrev S64x1x128 : Shape := ⟨3, ![64, 1, 128]⟩
abbrev S64x6 : Shape := ⟨2, ![64, 6]⟩
abbrev S1x131072 : Shape := ⟨2, ![1, 131072]⟩
abbrev S64x1024x128 : Shape := ⟨3, ![64, 1024, 128]⟩
abbrev S63x2048 : Shape := ⟨2, ![63, 2048]⟩
abbrev S1x2048 : Shape := ⟨2, ![1, 2048]⟩
abbrev S64x16x128 : Shape := ⟨3, ![64, 16, 128]⟩
abbrev S2048 : Shape := ⟨1, ![2048]⟩
abbrev S64x2048 : Shape := ⟨2, ![64, 2048]⟩
abbrev S1x64 : Shape := ⟨2, ![1, 64]⟩
abbrev S1x1 : Shape := ⟨2, ![1, 1]⟩
abbrev S1x16x128 : Shape := ⟨3, ![1, 16, 128]⟩
abbrev S131072x1 : Shape := ⟨2, ![131072, 1]⟩
abbrev S131072x1x1 : Shape := ⟨3, ![131072, 1, 1]⟩
abbrev S1024x128x64 : Shape := ⟨3, ![1024, 128, 64]⟩
abbrev S131072x64x1 : Shape := ⟨3, ![131072, 64, 1]⟩

abbrev nBuf : Space → Nat
  | .hbm => 42
  | .vmem => 33
  | .smem => 1
  | _ => 0

abbrev bufTy : (tb : Table) → Fin (tcTables nBuf tb) → BufTy
  | .hbm, ⟨0, _⟩ => ⟨S131072x63, .f32⟩
  | .hbm, ⟨1, _⟩ => ⟨S64x1, .f32⟩
  | .hbm, ⟨2, _⟩ => ⟨S64x1, .f32⟩
  | .hbm, ⟨3, _⟩ => ⟨S6x1, .f32⟩
  | .hbm, ⟨4, _⟩ => ⟨S6x64, .f32⟩
  | .hbm, ⟨5, _⟩ => ⟨S63x131072, .f32⟩
  | .hbm, ⟨6, _⟩ => ⟨S64x1x1, .f32⟩
  | .hbm, ⟨7, _⟩ => ⟨S64x1x128, .f32⟩
  | .hbm, ⟨8, _⟩ => ⟨S64x6, .f32⟩
  | .hbm, ⟨9, _⟩ => ⟨S1x131072, .f32⟩
  | .hbm, ⟨10, _⟩ => ⟨S64x1024x128, .f32⟩
  | .hbm, ⟨11, _⟩ => ⟨S1x131072, .f32⟩
  | .hbm, ⟨12, _⟩ => ⟨S64x1024x128, .f32⟩
  | .hbm, ⟨13, _⟩ => ⟨S1x131072, .f32⟩
  | .hbm, ⟨14, _⟩ => ⟨S64x1024x128, .f32⟩
  | .hbm, ⟨15, _⟩ => ⟨S1x131072, .f32⟩
  | .hbm, ⟨16, _⟩ => ⟨S64x1024x128, .f32⟩
  | .hbm, ⟨17, _⟩ => ⟨S1x131072, .f32⟩
  | .hbm, ⟨18, _⟩ => ⟨S64x1024x128, .f32⟩
  | .hbm, ⟨19, _⟩ => ⟨S1x131072, .f32⟩
  | .hbm, ⟨20, _⟩ => ⟨S64x1024x128, .f32⟩
  | .hbm, ⟨21, _⟩ => ⟨S1x131072, .f32⟩
  | .hbm, ⟨22, _⟩ => ⟨S131072x1, .f32⟩
  | .hbm, ⟨23, _⟩ => ⟨S131072x1x1, .f32⟩
  | .hbm, ⟨24, _⟩ => ⟨S1024x128x64, .f32⟩
  | .hbm, ⟨25, _⟩ => ⟨S131072x64x1, .f32⟩
  | .hbm, ⟨26, _⟩ => ⟨S131072x1, .f32⟩
  | .hbm, ⟨27, _⟩ => ⟨S1024x128x64, .f32⟩
  | .hbm, ⟨28, _⟩ => ⟨S131072x64x1, .f32⟩
  | .hbm, ⟨29, _⟩ => ⟨S131072x1, .f32⟩
  | .hbm, ⟨30, _⟩ => ⟨S1024x128x64, .f32⟩
  | .hbm, ⟨31, _⟩ => ⟨S131072x64x1, .f32⟩
  | .hbm, ⟨32, _⟩ => ⟨S131072x1, .f32⟩
  | .hbm, ⟨33, _⟩ => ⟨S1024x128x64, .f32⟩
  | .hbm, ⟨34, _⟩ => ⟨S131072x64x1, .f32⟩
  | .hbm, ⟨35, _⟩ => ⟨S131072x1, .f32⟩
  | .hbm, ⟨36, _⟩ => ⟨S1024x128x64, .f32⟩
  | .hbm, ⟨37, _⟩ => ⟨S131072x64x1, .f32⟩
  | .hbm, ⟨38, _⟩ => ⟨S131072x1, .f32⟩
  | .hbm, ⟨39, _⟩ => ⟨S1024x128x64, .f32⟩
  | .hbm, ⟨40, _⟩ => ⟨S131072x64x1, .f32⟩
  | .hbm, ⟨41, _⟩ => ⟨S131072x1, .f32⟩
  | .local _ .vmem, ⟨0, _⟩ => ⟨S63x2048, .f32⟩
  | .local _ .vmem, ⟨1, _⟩ => ⟨S63x2048, .f32⟩
  | .local _ .vmem, ⟨2, _⟩ => ⟨S64x1, .f32⟩
  | .local _ .vmem, ⟨3, _⟩ => ⟨S64x1, .f32⟩
  | .local _ .vmem, ⟨4, _⟩ => ⟨S64x1x128, .f32⟩
  | .local _ .vmem, ⟨5, _⟩ => ⟨S6x64, .f32⟩
  | .local _ .vmem, ⟨6, _⟩ => ⟨S64x6, .f32⟩
  | .local _ .vmem, ⟨7, _⟩ => ⟨S1x2048, .f32⟩
  | .local _ .vmem, ⟨8, _⟩ => ⟨S1x2048, .f32⟩
  | .local _ .vmem, ⟨9, _⟩ => ⟨S64x16x128, .f32⟩
  | .local _ .vmem, ⟨10, _⟩ => ⟨S64x16x128, .f32⟩
  | .local _ .vmem, ⟨11, _⟩ => ⟨S1x2048, .f32⟩
  | .local _ .vmem, ⟨12, _⟩ => ⟨S1x2048, .f32⟩
  | .local _ .vmem, ⟨13, _⟩ => ⟨S64x16x128, .f32⟩
  | .local _ .vmem, ⟨14, _⟩ => ⟨S64x16x128, .f32⟩
  | .local _ .vmem, ⟨15, _⟩ => ⟨S1x2048, .f32⟩
  | .local _ .vmem, ⟨16, _⟩ => ⟨S1x2048, .f32⟩
  | .local _ .vmem, ⟨17, _⟩ => ⟨S64x16x128, .f32⟩
  | .local _ .vmem, ⟨18, _⟩ => ⟨S64x16x128, .f32⟩
  | .local _ .vmem, ⟨19, _⟩ => ⟨S1x2048, .f32⟩
  | .local _ .vmem, ⟨20, _⟩ => ⟨S1x2048, .f32⟩
  | .local _ .vmem, ⟨21, _⟩ => ⟨S64x16x128, .f32⟩
  | .local _ .vmem, ⟨22, _⟩ => ⟨S64x16x128, .f32⟩
  | .local _ .vmem, ⟨23, _⟩ => ⟨S1x2048, .f32⟩
  | .local _ .vmem, ⟨24, _⟩ => ⟨S1x2048, .f32⟩
  | .local _ .vmem, ⟨25, _⟩ => ⟨S64x16x128, .f32⟩
  | .local _ .vmem, ⟨26, _⟩ => ⟨S64x16x128, .f32⟩
  | .local _ .vmem, ⟨27, _⟩ => ⟨S1x2048, .f32⟩
  | .local _ .vmem, ⟨28, _⟩ => ⟨S1x2048, .f32⟩
  | .local _ .vmem, ⟨29, _⟩ => ⟨S64x16x128, .f32⟩
  | .local _ .vmem, ⟨30, _⟩ => ⟨S64x16x128, .f32⟩
  | .local _ .vmem, ⟨31, _⟩ => ⟨S1x2048, .f32⟩
  | .local _ .vmem, ⟨32, _⟩ => ⟨S1x2048, .f32⟩
  | .local _ .smem, ⟨0, _⟩ => ⟨S6x1, .f32⟩
  | _, _ => ⟨S131072x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_v0_10 : Ref sig .tc := ⟨.hbm, 19, rfl⟩
abbrev main_v0_11 : Ref sig .tc := ⟨.hbm, 20, rfl⟩
abbrev main_v0_12 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S63x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S6x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x16x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x16x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S131072x63 : Shape := ⟨2, ![131072, 63]⟩
abbrev S64x1 : Shape := ⟨2, ![64, 1]⟩
abbrev S6x1 : Shape := ⟨2, ![6, 1]⟩
abbrev S6x64 : Shape := ⟨2, ![6, 64]⟩
abbrev S1x64x1 : Shape := ⟨3, ![1, 64, 1]⟩
abbrev S1x1x1x64x1x1 : Shape := ⟨6, ![1, 1, 1, 64, 1, 1]⟩
abbrev S131072x1x1x64x1x1 : Shape := ⟨6, ![131072, 1, 1, 64, 1, 1]⟩
abbrev S131072x64x1 : Shape := ⟨3, ![131072, 64, 1]⟩
abbrev S_ : Shape := ⟨0, ![]⟩
abbrev S131072 : Shape := ⟨1, ![131072]⟩
abbrev S131072x1 : Shape := ⟨2, ![131072, 1]⟩
abbrev S131072x64 : Shape := ⟨2, ![131072, 64]⟩
abbrev S1x64 : Shape := ⟨2, ![1, 64]⟩
abbrev S64 : Shape := ⟨1, ![64]⟩
abbrev S1x1 : Shape := ⟨2, ![1, 1]⟩
abbrev S1 : Shape := ⟨1, ![1]⟩
abbrev S131072x2 : Shape := ⟨2, ![131072, 2]⟩
abbrev S131072x1x64 : Shape := ⟨3, ![131072, 1, 64]⟩
abbrev S131072x1x1 : Shape := ⟨3, ![131072, 1, 1]⟩

abbrev nBuf : Space → Nat
  | .hbm => 520
  | .vmem => 0
  | .smem => 0
  | _ => 0

abbrev hbmTy0_0 (i : Nat) : BufTy := match i % 128 with
  | 0 => ⟨S131072x63, .f32⟩
  | 1 => ⟨S64x1, .f32⟩
  | 2 => ⟨S64x1, .f32⟩
  | 3 => ⟨S6x1, .f32⟩
  | 4 => ⟨S6x64, .f32⟩
  | 5 => ⟨S1x64x1, .f32⟩
  | 6 => ⟨S1x1x1x64x1x1, .f32⟩
  | 7 => ⟨S131072x1x1x64x1x1, .f32⟩
  | 8 => ⟨S131072x64x1, .f32⟩
  | 9 => ⟨S1x64x1, .f32⟩
  | 10 => ⟨S1x1x1x64x1x1, .f32⟩
  | 11 => ⟨S131072x1x1x64x1x1, .f32⟩
  | 12 => ⟨S131072x64x1, .f32⟩
  | 13 => ⟨S_, .f32⟩
  | 14 => ⟨S131072, .f32⟩
  | 15 => ⟨S131072x1, .f32⟩
  | 16 => ⟨S_, .f32⟩
  | 17 => ⟨S131072x1, .f32⟩
  | 18 => ⟨S131072x1, .f32⟩
  | 19 => ⟨S131072x64, .f32⟩
  | 20 => ⟨S1x64, .f32⟩
  | 21 => ⟨S64, .f32⟩
  | 22 => ⟨S1x1, .f32⟩
  | 23 => ⟨S1, .f32⟩
  | 24 => ⟨S131072, .i32⟩
  | 25 => ⟨S1x64, .f32⟩
  | 26 => ⟨S_, .f32⟩
  | 27 => ⟨S1x64, .f32⟩
  | 28 => ⟨S1x64, .f32⟩
  | 29 => ⟨S131072x64, .f32⟩
  | 30 => ⟨S131072x64, .f32⟩
  | 31 => ⟨S_, .f32⟩
  | 32 => ⟨S131072, .f32⟩
  | 33 => ⟨S131072x64, .i32⟩
  | 34 => ⟨S_, .f32⟩
  | 35 => ⟨S_, .i32⟩
  | 36 => ⟨S131072, .f32⟩
  | 37 => ⟨S131072, .i32⟩
  | 38 => ⟨S131072x1, .f32⟩
  | 39 => ⟨S1x64, .f32⟩
  | 40 => ⟨S131072x64, .f32⟩
  | 41 => ⟨S131072x64, .f32⟩
  | 42 => ⟨S131072x64, .f32⟩
  | 43 => ⟨S131072x64, .f32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072x1, .i32⟩
  | 60 => ⟨S131072x2, .i32⟩
  | 61 => ⟨S131072x64, .f32⟩
  | 62 => ⟨S131072x1, .f32⟩
  | 63 => ⟨S131072x1, .f32⟩
  | 64 => ⟨S1x1, .f32⟩
  | 65 => ⟨S131072x1, .f32⟩
  | 66 => ⟨S131072x1, .f32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S_, .i32⟩
  | 75 => ⟨S131072, .i32⟩
  | 76 => ⟨S131072, .i1⟩
  | 77 => ⟨S_, .i32⟩
  | 78 => ⟨S131072, .i32⟩
  | 79 => ⟨S131072, .i32⟩
  | 80 => ⟨S131072, .i32⟩
  | 81 => ⟨S131072x1, .i32⟩
  | 82 => ⟨S131072x1, .i32⟩
  | 83 => ⟨S131072x2, .i32⟩
  | 84 => ⟨S131072x64x1, .f32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S131072x1, .i32⟩
  | 100 => ⟨S131072x1, .i32⟩
  | 101 => ⟨S131072x2, .i32⟩
  | 102 => ⟨S131072x64x1, .f32⟩
  | 103 => ⟨S1x64, .f32⟩
  | 104 => ⟨S64, .f32⟩
  | 105 => ⟨S1x1, .f32⟩
  | 106 => ⟨S1, .f32⟩
  | 107 => ⟨S131072, .i32⟩
  | 108 => ⟨S1x64, .f32⟩
  | 109 => ⟨S_, .f32⟩
  | 110 => ⟨S1x64, .f32⟩
  | 111 => ⟨S1x64, .f32⟩
  | 112 => ⟨S131072x64, .f32⟩
  | 113 => ⟨S131072x64, .f32⟩
  | 114 => ⟨S_, .f32⟩
  | 115 => ⟨S131072, .f32⟩
  | 116 => ⟨S131072x64, .i32⟩
  | 117 => ⟨S_, .f32⟩
  | 118 => ⟨S_, .i32⟩
  | 119 => ⟨S131072, .f32⟩
  | 120 => ⟨S131072, .i32⟩
  | 121 => ⟨S131072x1, .f32⟩
  | 122 => ⟨S1x64, .f32⟩
  | 123 => ⟨S131072x64, .f32⟩
  | 124 => ⟨S131072x64, .f32⟩
  | 125 => ⟨S131072x64, .f32⟩
  | 126 => ⟨S131072x64, .f32⟩
  | 127 => ⟨S_, .i32⟩
  | _ => ⟨S131072x63, .f32⟩

abbrev hbmTy0_1 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S_, .i32⟩
  | 7 => ⟨S131072, .i32⟩
  | 8 => ⟨S131072, .i1⟩
  | 9 => ⟨S_, .i32⟩
  | 10 => ⟨S131072, .i32⟩
  | 11 => ⟨S131072, .i32⟩
  | 12 => ⟨S131072, .i32⟩
  | 13 => ⟨S131072x1, .i32⟩
  | 14 => ⟨S131072x1, .i32⟩
  | 15 => ⟨S131072x2, .i32⟩
  | 16 => ⟨S131072x64, .f32⟩
  | 17 => ⟨S131072x1, .f32⟩
  | 18 => ⟨S131072x1, .f32⟩
  | 19 => ⟨S1x1, .f32⟩
  | 20 => ⟨S131072x1, .f32⟩
  | 21 => ⟨S131072x1, .f32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072x1, .i32⟩
  | 38 => ⟨S131072x2, .i32⟩
  | 39 => ⟨S131072x64x1, .f32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S131072x1, .i32⟩
  | 55 => ⟨S131072x1, .i32⟩
  | 56 => ⟨S131072x2, .i32⟩
  | 57 => ⟨S131072x64x1, .f32⟩
  | 58 => ⟨S1x64, .f32⟩
  | 59 => ⟨S64, .f32⟩
  | 60 => ⟨S1x1, .f32⟩
  | 61 => ⟨S1, .f32⟩
  | 62 => ⟨S131072, .i32⟩
  | 63 => ⟨S1x64, .f32⟩
  | 64 => ⟨S_, .f32⟩
  | 65 => ⟨S1x64, .f32⟩
  | 66 => ⟨S1x64, .f32⟩
  | 67 => ⟨S131072x64, .f32⟩
  | 68 => ⟨S131072x64, .f32⟩
  | 69 => ⟨S_, .f32⟩
  | 70 => ⟨S131072, .f32⟩
  | 71 => ⟨S131072x64, .i32⟩
  | 72 => ⟨S_, .f32⟩
  | 73 => ⟨S_, .i32⟩
  | 74 => ⟨S131072, .f32⟩
  | 75 => ⟨S131072, .i32⟩
  | 76 => ⟨S131072x1, .f32⟩
  | 77 => ⟨S1x64, .f32⟩
  | 78 => ⟨S131072x64, .f32⟩
  | 79 => ⟨S131072x64, .f32⟩
  | 80 => ⟨S131072x64, .f32⟩
  | 81 => ⟨S131072x64, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x1, .i32⟩
  | 98 => ⟨S131072x2, .i32⟩
  | 99 => ⟨S131072x64, .f32⟩
  | 100 => ⟨S131072x1, .f32⟩
  | 101 => ⟨S131072x1, .f32⟩
  | 102 => ⟨S1x1, .f32⟩
  | 103 => ⟨S131072x1, .f32⟩
  | 104 => ⟨S131072x1, .f32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072x1, .i32⟩
  | 121 => ⟨S131072x2, .i32⟩
  | 122 => ⟨S131072x64x1, .f32⟩
  | 123 => ⟨S_, .i32⟩
  | 124 => ⟨S131072, .i32⟩
  | 125 => ⟨S131072, .i1⟩
  | 126 => ⟨S_, .i32⟩
  | 127 => ⟨S131072, .i32⟩
  | _ => ⟨S131072x63, .f32⟩

abbrev hbmTy0_2 (i : Nat) : BufTy := match i % 128 with
  | 0 => ⟨S131072, .i32⟩
  | 1 => ⟨S131072, .i32⟩
  | 2 => ⟨S_, .i32⟩
  | 3 => ⟨S131072, .i32⟩
  | 4 => ⟨S131072, .i1⟩
  | 5 => ⟨S_, .i32⟩
  | 6 => ⟨S131072, .i32⟩
  | 7 => ⟨S131072, .i32⟩
  | 8 => ⟨S131072, .i32⟩
  | 9 => ⟨S131072x1, .i32⟩
  | 10 => ⟨S131072x1, .i32⟩
  | 11 => ⟨S131072x2, .i32⟩
  | 12 => ⟨S131072x64x1, .f32⟩
  | 13 => ⟨S1x64, .f32⟩
  | 14 => ⟨S64, .f32⟩
  | 15 => ⟨S1x1, .f32⟩
  | 16 => ⟨S1, .f32⟩
  | 17 => ⟨S131072, .i32⟩
  | 18 => ⟨S1x64, .f32⟩
  | 19 => ⟨S_, .f32⟩
  | 20 => ⟨S1x64, .f32⟩
  | 21 => ⟨S1x64, .f32⟩
  | 22 => ⟨S131072x64, .f32⟩
  | 23 => ⟨S131072x64, .f32⟩
  | 24 => ⟨S_, .f32⟩
  | 25 => ⟨S131072, .f32⟩
  | 26 => ⟨S131072x64, .i32⟩
  | 27 => ⟨S_, .f32⟩
  | 28 => ⟨S_, .i32⟩
  | 29 => ⟨S131072, .f32⟩
  | 30 => ⟨S131072, .i32⟩
  | 31 => ⟨S131072x1, .f32⟩
  | 32 => ⟨S1x64, .f32⟩
  | 33 => ⟨S131072x64, .f32⟩
  | 34 => ⟨S131072x64, .f32⟩
  | 35 => ⟨S131072x64, .f32⟩
  | 36 => ⟨S131072x64, .f32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S131072x1, .i32⟩
  | 53 => ⟨S131072x2, .i32⟩
  | 54 => ⟨S131072x64, .f32⟩
  | 55 => ⟨S131072x1, .f32⟩
  | 56 => ⟨S131072x1, .f32⟩
  | 57 => ⟨S1x1, .f32⟩
  | 58 => ⟨S131072x1, .f32⟩
  | 59 => ⟨S131072x1, .f32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S131072x1, .i32⟩
  | 75 => ⟨S131072x1, .i32⟩
  | 76 => ⟨S131072x2, .i32⟩
  | 77 => ⟨S131072x64x1, .f32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S131072x1, .i32⟩
  | 93 => ⟨S131072x1, .i32⟩
  | 94 => ⟨S131072x2, .i32⟩
  | 95 => ⟨S131072x64x1, .f32⟩
  | 96 => ⟨S1x64, .f32⟩
  | 97 => ⟨S64, .f32⟩
  | 98 => ⟨S1x1, .f32⟩
  | 99 => ⟨S1, .f32⟩
  | 100 => ⟨S131072, .i32⟩
  | 101 => ⟨S1x64, .f32⟩
  | 102 => ⟨S_, .f32⟩
  | 103 => ⟨S1x64, .f32⟩
  | 104 => ⟨S1x64, .f32⟩
  | 105 => ⟨S131072x64, .f32⟩
  | 106 => ⟨S131072x64, .f32⟩
  | 107 => ⟨S_, .f32⟩
  | 108 => ⟨S131072, .f32⟩
  | 109 => ⟨S131072x64, .i32⟩
  | 110 => ⟨S_, .f32⟩
  | 111 => ⟨S_, .i32⟩
  | 112 => ⟨S131072, .f32⟩
  | 113 => ⟨S131072, .i32⟩
  | 114 => ⟨S131072x1, .f32⟩
  | 115 => ⟨S1x64, .f32⟩
  | 116 => ⟨S131072x64, .f32⟩
  | 117 => ⟨S131072x64, .f32⟩
  | 118 => ⟨S131072x64, .f32⟩
  | 119 => ⟨S131072x64, .f32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S_, .i32⟩
  | _ => ⟨S131072x63, .f32⟩

abbrev hbmTy0_3 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S131072x1, .i32⟩
  | 7 => ⟨S131072x1, .i32⟩
  | 8 => ⟨S131072x2, .i32⟩
  | 9 => ⟨S131072x64, .f32⟩
  | 10 => ⟨S131072x1, .f32⟩
  | 11 => ⟨S131072x1, .f32⟩
  | 12 => ⟨S1x1, .f32⟩
  | 13 => ⟨S131072x1, .f32⟩
  | 14 => ⟨S131072x1, .f32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x1, .i32⟩
  | 31 => ⟨S131072x2, .i32⟩
  | 32 => ⟨S131072x64x1, .f32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x1, .i32⟩
  | 49 => ⟨S131072x2, .i32⟩
  | 50 => ⟨S131072x64x1, .f32⟩
  | 51 => ⟨S1x64, .f32⟩
  | 52 => ⟨S64, .f32⟩
  | 53 => ⟨S1x1, .f32⟩
  | 54 => ⟨S1, .f32⟩
  | 55 => ⟨S131072, .i32⟩
  | 56 => ⟨S1x64, .f32⟩
  | 57 => ⟨S_, .f32⟩
  | 58 => ⟨S1x64, .f32⟩
  | 59 => ⟨S1x64, .f32⟩
  | 60 => ⟨S131072x64, .f32⟩
  | 61 => ⟨S131072x64, .f32⟩
  | 62 => ⟨S_, .f32⟩
  | 63 => ⟨S131072, .f32⟩
  | 64 => ⟨S131072x64, .i32⟩
  | 65 => ⟨S_, .f32⟩
  | 66 => ⟨S_, .i32⟩
  | 67 => ⟨S131072, .f32⟩
  | 68 => ⟨S131072, .i32⟩
  | 69 => ⟨S131072x1, .f32⟩
  | 70 => ⟨S1x64, .f32⟩
  | 71 => ⟨S131072x64, .f32⟩
  | 72 => ⟨S131072x64, .f32⟩
  | 73 => ⟨S131072x64, .f32⟩
  | 74 => ⟨S131072x64, .f32⟩
  | 75 => ⟨S_, .i32⟩
  | 76 => ⟨S131072, .i32⟩
  | 77 => ⟨S131072, .i1⟩
  | 78 => ⟨S_, .i32⟩
  | 79 => ⟨S131072, .i32⟩
  | 80 => ⟨S131072, .i32⟩
  | 81 => ⟨S131072, .i32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072x1, .i32⟩
  | 91 => ⟨S131072x2, .i32⟩
  | 92 => ⟨S131072x64, .f32⟩
  | 93 => ⟨S131072x1, .f32⟩
  | 94 => ⟨S131072x1, .f32⟩
  | 95 => ⟨S1x1, .f32⟩
  | 96 => ⟨S131072x1, .f32⟩
  | 97 => ⟨S131072x1, .f32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S131072x1, .i32⟩
  | 113 => ⟨S131072x1, .i32⟩
  | 114 => ⟨S131072x2, .i32⟩
  | 115 => ⟨S131072x64x1, .f32⟩
  | 116 => ⟨S_, .i32⟩
  | 117 => ⟨S131072, .i32⟩
  | 118 => ⟨S131072, .i1⟩
  | 119 => ⟨S_, .i32⟩
  | 120 => ⟨S131072, .i32⟩
  | 121 => ⟨S131072, .i32⟩
  | 122 => ⟨S131072, .i32⟩
  | 123 => ⟨S_, .i32⟩
  | 124 => ⟨S131072, .i32⟩
  | 125 => ⟨S131072, .i1⟩
  | 126 => ⟨S_, .i32⟩
  | 127 => ⟨S131072, .i32⟩
  | _ => ⟨S131072x63, .f32⟩

abbrev hbmTy0_4 (i : Nat) : BufTy := match i % 128 with
  | 0 => ⟨S131072, .i32⟩
  | 1 => ⟨S131072, .i32⟩
  | 2 => ⟨S131072x1, .i32⟩
  | 3 => ⟨S131072x1, .i32⟩
  | 4 => ⟨S131072x2, .i32⟩
  | 5 => ⟨S131072x64x1, .f32⟩
  | 6 => ⟨S131072x1x64, .f32⟩
  | 7 => ⟨S131072x1x1, .f32⟩
  | _ => ⟨S131072x63, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S131072x63, .f32⟩

abbrev bufTy : (tb : Table) → Fin (tcTables nBuf tb) → BufTy
  | .hbm, ⟨i, _⟩ => hbmTy i
  | _, _ => ⟨S131072x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_cst_0 : Ref sig .tc := ⟨.hbm, 31, rfl⟩
abbrev main_call0_v6 : Ref sig .tc := ⟨.hbm, 32, rfl⟩
abbrev main_call0_call0_v0 : Ref sig .tc := ⟨.hbm, 33, rfl⟩
abbrev main_call0_call0_cst : Ref sig .tc := ⟨.hbm, 34, rfl⟩
abbrev main_call0_call0_c : Ref sig .tc := ⟨.hbm, 35, rfl⟩
abbrev main_call0_call0_v1_0 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_c : Ref sig .tc := ⟨.hbm, 44, rfl⟩
abbrev main_call0_v14 : Ref sig .tc := ⟨.hbm, 45, rfl⟩
abbrev main_call0_v15 : Ref sig .tc := ⟨.hbm, 46, rfl⟩
abbrev main_call0_c_1 : Ref sig .tc := ⟨.hbm, 47, rfl⟩
abbrev main_call0_v16 : Ref sig .tc := ⟨.hbm, 48, rfl⟩
abbrev main_call0_v17 : Ref sig .tc := ⟨.hbm, 49, rfl⟩
abbrev main_call0_v18 : Ref sig .tc := ⟨.hbm, 50, rfl⟩
abbrev main_call0_c_2 : Ref sig .tc := ⟨.hbm, 51, rfl⟩
abbrev main_call0_v19 : Ref sig .tc := ⟨.hbm, 52, rfl⟩
abbrev main_call0_v20 : Ref sig .tc := ⟨.hbm, 53, rfl⟩
abbrev main_call0_c_3 : Ref sig .tc := ⟨.hbm, 54, rfl⟩
abbrev main_call0_v21 : Ref sig .tc := ⟨.hbm, 55, rfl⟩
abbrev main_call0_v22 : Ref sig .tc := ⟨.hbm, 56, rfl⟩
abbrev main_call0_v23 : Ref sig .tc := ⟨.hbm, 57, rfl⟩
abbrev main_call0_v24 : Ref sig .tc := ⟨.hbm, 58, rfl⟩
abbrev main_call0_v25 : Ref sig .tc := ⟨.hbm, 59, rfl⟩
abbrev main_call0_v26 : Ref sig .tc := ⟨.hbm, 60, rfl⟩
abbrev main_v17_0 : Ref sig .tc := ⟨.hbm, 61, rfl⟩
abbrev main_v17_3 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_v32 : Ref sig .tc := ⟨.hbm, 66, rfl⟩
abbrev main_call0_c_4 : Ref sig .tc := ⟨.hbm, 67, rfl⟩
abbrev main_call0_v33 : Ref sig .tc := ⟨.hbm, 68, rfl⟩
abbrev main_call0_v34 : Ref sig .tc := ⟨.hbm, 69, rfl⟩
abbrev main_call0_c_5 : Ref sig .tc := ⟨.hbm, 70, rfl⟩
abbrev main_call0_v35 : Ref sig .tc := ⟨.hbm, 71, rfl⟩
abbrev main_call0_v36 : Ref sig .tc := ⟨.hbm, 72, rfl⟩
abbrev main_call0_v37 : Ref sig .tc := ⟨.hbm, 73, rfl⟩
abbrev main_call0_c_6 : Ref sig .tc := ⟨.hbm, 74, rfl⟩
abbrev main_call0_v38 : Ref sig .tc := ⟨.hbm, 75, rfl⟩
abbrev main_call0_v39 : Ref sig .tc := ⟨.hbm, 76, rfl⟩
abbrev main_call0_c_7 : Ref sig .tc := ⟨.hbm, 77, rfl⟩
abbrev main_call0_v40 : Ref sig .tc := ⟨.hbm, 78, rfl⟩
abbrev main_call0_v41 : Ref sig .tc := ⟨.hbm, 79, rfl⟩
abbrev main_call0_v42 : Ref sig .tc := ⟨.hbm, 80, rfl⟩
abbrev main_call0_v43 : Ref sig .tc := ⟨.hbm, 81, rfl⟩
abbrev main_call0_v44 : Ref sig .tc := ⟨.hbm, 82, rfl⟩
abbrev main_call0_v45 : Ref sig .tc := ⟨.hbm, 83, rfl⟩
abbrev main_v17_1 : Ref sig .tc := ⟨.hbm, 84, rfl⟩
abbrev main_call0_c_8 : Ref sig .tc := ⟨.hbm, 85, rfl⟩
abbrev main_call0_v47 : Ref sig .tc := ⟨.hbm, 86, rfl⟩
abbrev main_call0_v48 : Ref sig .tc := ⟨.hbm, 87, rfl⟩
abbrev main_call0_c_9 : Ref sig .tc := ⟨.hbm, 88, rfl⟩
abbrev main_call0_v49 : Ref sig .tc := ⟨.hbm, 89, rfl⟩
abbrev main_call0_v50 : Ref sig .tc := ⟨.hbm, 90, rfl⟩
abbrev main_call0_v51 : Ref sig .tc := ⟨.hbm, 91, rfl⟩
abbrev main_call0_c_10 : Ref sig .tc := ⟨.hbm, 92, rfl⟩
abbrev main_call0_v52 : Ref sig .tc := ⟨.hbm, 93, rfl⟩
abbrev main_call0_v53 : Ref sig .tc := ⟨.hbm, 94, rfl⟩
abbrev main_call0_c_11 : Ref sig .tc := ⟨.hbm, 95, rfl⟩
abbrev main_call0_v54 : Ref sig .tc := ⟨.hbm, 96, rfl⟩
abbrev main_call0_v55 : Ref sig .tc := ⟨.hbm, 97, rfl⟩
abbrev main_call0_v56 : Ref sig .tc := ⟨.hbm, 98, rfl⟩
abbrev main_call0_v57 : Ref sig .tc := ⟨.hbm, 99, rfl⟩
abbrev main_call0_v58 : Ref sig .tc := ⟨.hbm, 100, rfl⟩
abbrev main_call0_v59 : Ref sig .tc := ⟨.hbm, 101, rfl⟩
abbrev main_v17_2 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_cst_0 : Ref sig .tc := ⟨.hbm, 114, rfl⟩
abbrev main_call1_v6 : Ref sig .tc := ⟨.hbm, 115, rfl⟩
abbrev main_call1_call0_v0 : Ref sig .tc := ⟨.hbm, 116, rfl⟩
abbrev main_call1_call0_cst : Ref sig .tc := ⟨.hbm, 117, rfl⟩
abbrev main_call1_call0_c : Ref sig .tc := ⟨.hbm, 118, rfl⟩
abbrev main_call1_call0_v1_0 : Ref sig .tc := ⟨.hbm, 119, rfl⟩
abbrev main_call1_v7 : Ref sig .tc := ⟨.hbm, 120, rfl⟩
abbrev main_call1_v8 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_v12 : Ref sig .tc := ⟨.hbm, 125, rfl⟩
abbrev main_call1_v13 : Ref sig .tc := ⟨.hbm, 126, rfl⟩
abbrev main_call1_c : Ref sig .tc := ⟨.hbm, 127, rfl⟩
abbrev main_call1_v14 : Ref sig .tc := ⟨.hbm, 128, rfl⟩
abbrev main_call1_v15 : Ref sig .tc := ⟨.hbm, 129, rfl⟩
abbrev main_call1_c_1 : Ref sig .tc := ⟨.hbm, 130, rfl⟩
abbrev main_call1_v16 : Ref sig .tc := ⟨.hbm, 131, rfl⟩
abbrev main_call1_v17 : Ref sig .tc := ⟨.hbm, 132, rfl⟩
abbrev main_call1_v18 : Ref sig .tc := ⟨.hbm, 133, rfl⟩
abbrev main_call1_c_2 : Ref sig .tc := ⟨.hbm, 134, rfl⟩
abbrev main_call1_v19 : Ref sig .tc := ⟨.hbm, 135, rfl⟩
abbrev main_call1_v20 : Ref sig .tc := ⟨.hbm, 136, rfl⟩
abbrev main_call1_c_3 : Ref sig .tc := ⟨.hbm, 137, rfl⟩
abbrev main_call1_v21 : Ref sig .tc := ⟨.hbm, 138, rfl⟩
abbrev main_call1_v22 : Ref sig .tc := ⟨.hbm, 139, rfl⟩
abbrev main_call1_v23 : Ref sig .tc := ⟨.hbm, 140, rfl⟩
abbrev main_call1_v24 : Ref sig .tc := ⟨.hbm, 141, rfl⟩
abbrev main_call1_v25 : Ref sig .tc := ⟨.hbm, 142, rfl⟩
abbrev main_call1_v26 : Ref sig .tc := ⟨.hbm, 143, rfl⟩
abbrev main_v22_0 : Ref sig .tc := ⟨.hbm, 144, rfl⟩
abbrev main_v22_3 : Ref sig .tc := ⟨.hbm, 145, rfl⟩
abbrev main_call1_v29 : Ref sig .tc := ⟨.hbm, 146, rfl⟩
abbrev main_call1_v30 : Ref sig .tc := ⟨.hbm, 147, rfl⟩
abbrev main_call1_v31 : Ref sig .tc := ⟨.hbm, 148, rfl⟩
abbrev main_call1_v32 : Ref sig .tc := ⟨.hbm, 149, rfl⟩
abbrev main_call1_c_4 : Ref sig .tc := ⟨.hbm, 150, rfl⟩
abbrev main_call1_v33 : Ref sig .tc := ⟨.hbm, 151, rfl⟩
abbrev main_call1_v34 : Ref sig .tc := ⟨.hbm, 152, rfl⟩
abbrev main_call1_c_5 : Ref sig .tc := ⟨.hbm, 153, rfl⟩
abbrev main_call1_v35 : Ref sig .tc := ⟨.hbm, 154, rfl⟩
abbrev main_call1_v36 : Ref sig .tc := ⟨.hbm, 155, rfl⟩
abbrev main_call1_v37 : Ref sig .tc := ⟨.hbm, 156, rfl⟩
abbrev main_call1_c_6 : Ref sig .tc := ⟨.hbm, 157, rfl⟩
abbrev main_call1_v38 : Ref sig .tc := ⟨.hbm, 158, rfl⟩
abbrev main_call1_v39 : Ref sig .tc := ⟨.hbm, 159, rfl⟩
abbrev main_call1_c_7 : Ref sig .tc := ⟨.hbm, 160, rfl⟩
abbrev main_call1_v40 : Ref sig .tc := ⟨.hbm, 161, rfl⟩
abbrev main_call1_v41 : Ref sig .tc := ⟨.hbm, 162, rfl⟩
abbrev main_call1_v42 : Ref sig .tc := ⟨.hbm, 163, rfl⟩
abbrev main_call1_v43 : Ref sig .tc := ⟨.hbm, 164, rfl⟩
abbrev main_call1_v44 : Ref sig .tc := ⟨.hbm, 165, rfl⟩
abbrev main_call1_v45 : Ref sig .tc := ⟨.hbm, 166, rfl⟩
abbrev main_v22_1 : Ref sig .tc := ⟨.hbm, 167, rfl⟩
abbrev main_call1_c_8 : Ref sig .tc := ⟨.hbm, 168, rfl⟩
abbrev main_call1_v47 : Ref sig .tc := ⟨.hbm, 169, rfl⟩
abbrev main_call1_v48 : Ref sig .tc := ⟨.hbm, 170, rfl⟩
abbrev main_call1_c_9 : Ref sig .tc := ⟨.hbm, 171, rfl⟩
abbrev main_call1_v49 : Ref sig .tc := ⟨.hbm, 172, rfl⟩
abbrev main_call1_v50 : Ref sig .tc := ⟨.hbm, 173, rfl⟩
abbrev main_call1_v51 : Ref sig .tc := ⟨.hbm, 174, rfl⟩
abbrev main_call1_c_10 : Ref sig .tc := ⟨.hbm, 175, rfl⟩
abbrev main_call1_v52 : Ref sig .tc := ⟨.hbm, 176, rfl⟩
abbrev main_call1_v53 : Ref sig .tc := ⟨.hbm, 177, rfl⟩
abbrev main_call1_c_11 : Ref sig .tc := ⟨.hbm, 178, rfl⟩
abbrev main_call1_v54 : Ref sig .tc := ⟨.hbm, 179, rfl⟩
abbrev main_call1_v55 : Ref sig .tc := ⟨.hbm, 180, rfl⟩
abbrev main_call1_v56 : Ref sig .tc := ⟨.hbm, 181, rfl⟩
abbrev main_call1_v57 : Ref sig .tc := ⟨.hbm, 182, rfl⟩
abbrev main_call1_v58 : Ref sig .tc := ⟨.hbm, 183, rfl⟩
abbrev main_call1_v59 : Ref sig .tc := ⟨.hbm, 184, rfl⟩
abbrev main_v22_2 : Ref sig .tc := ⟨.hbm, 185, rfl⟩
abbrev main_v23 : Ref sig .tc := ⟨.hbm, 186, rfl⟩
abbrev main_v24 : Ref sig .tc := ⟨.hbm, 187, rfl⟩
abbrev main_v25 : Ref sig .tc := ⟨.hbm, 188, rfl⟩
abbrev main_v26 : Ref sig .tc := ⟨.hbm, 189, rfl⟩
abbrev main_call2_v0 : Ref sig .tc := ⟨.hbm, 190, rfl⟩
abbrev main_call2_v1 : Ref sig .tc := ⟨.hbm, 191, rfl⟩
abbrev main_call2_cst : Ref sig .tc := ⟨.hbm, 192, rfl⟩
abbrev main_call2_v2 : Ref sig .tc := ⟨.hbm, 193, rfl⟩
abbrev main_call2_v3 : Ref sig .tc := ⟨.hbm, 194, rfl⟩
abbrev main_call2_v4 : Ref sig .tc := ⟨.hbm, 195, rfl⟩
abbrev main_call2_v5 : Ref sig .tc := ⟨.hbm, 196, rfl⟩
abbrev main_call2_cst_0 : Ref sig .tc := ⟨.hbm, 197, rfl⟩
abbrev main_call2_v6 : Ref sig .tc := ⟨.hbm, 198, rfl⟩
abbrev main_call2_call0_v0 : Ref sig .tc := ⟨.hbm, 199, rfl⟩
abbrev main_call2_call0_cst : Ref sig .tc := ⟨.hbm, 200, rfl⟩
abbrev main_call2_call0_c : Ref sig .tc := ⟨.hbm, 201, rfl⟩
abbrev main_call2_call0_v1_0 : Ref sig .tc := ⟨.hbm, 202, rfl⟩
abbrev main_call2_v7 : Ref sig .tc := ⟨.hbm, 203, rfl⟩
abbrev main_call2_v8 : Ref sig .tc := ⟨.hbm, 204, rfl⟩
abbrev main_call2_v9 : Ref sig .tc := ⟨.hbm, 205, rfl⟩
abbrev main_call2_v10 : Ref sig .tc := ⟨.hbm, 206, rfl⟩
abbrev main_call2_v11 : Ref sig .tc := ⟨.hbm, 207, rfl⟩
abbrev main_call2_v12 : Ref sig .tc := ⟨.hbm, 208, rfl⟩
abbrev main_call2_v13 : Ref sig .tc := ⟨.hbm, 209, rfl⟩
abbrev main_call2_c : Ref sig .tc := ⟨.hbm, 210, rfl⟩
abbrev main_call2_v14 : Ref sig .tc := ⟨.hbm, 211, rfl⟩
abbrev main_call2_v15 : Ref sig .tc := ⟨.hbm, 212, rfl⟩
abbrev main_call2_c_1 : Ref sig .tc := ⟨.hbm, 213, rfl⟩
abbrev main_call2_v16 : Ref sig .tc := ⟨.hbm, 214, rfl⟩
abbrev main_call2_v17 : Ref sig .tc := ⟨.hbm, 215, rfl⟩
abbrev main_call2_v18 : Ref sig .tc := ⟨.hbm, 216, rfl⟩
abbrev main_call2_c_2 : Ref sig .tc := ⟨.hbm, 217, rfl⟩
abbrev main_call2_v19 : Ref sig .tc := ⟨.hbm, 218, rfl⟩
abbrev main_call2_v20 : Ref sig .tc := ⟨.hbm, 219, rfl⟩
abbrev main_call2_c_3 : Ref sig .tc := ⟨.hbm, 220, rfl⟩
abbrev main_call2_v21 : Ref sig .tc := ⟨.hbm, 221, rfl⟩
abbrev main_call2_v22 : Ref sig .tc := ⟨.hbm, 222, rfl⟩
abbrev main_call2_v23 : Ref sig .tc := ⟨.hbm, 223, rfl⟩
abbrev main_call2_v24 : Ref sig .tc := ⟨.hbm, 224, rfl⟩
abbrev main_call2_v25 : Ref sig .tc := ⟨.hbm, 225, rfl⟩
abbrev main_call2_v26 : Ref sig .tc := ⟨.hbm, 226, rfl⟩
abbrev main_v27_0 : Ref sig .tc := ⟨.hbm, 227, rfl⟩
abbrev main_v27_3 : Ref sig .tc := ⟨.hbm, 228, rfl⟩
abbrev main_call2_v29 : Ref sig .tc := ⟨.hbm, 229, rfl⟩
abbrev main_call2_v30 : Ref sig .tc := ⟨.hbm, 230, rfl⟩
abbrev main_call2_v31 : Ref sig .tc := ⟨.hbm, 231, rfl⟩
abbrev main_call2_v32 : Ref sig .tc := ⟨.hbm, 232, rfl⟩
abbrev main_call2_c_4 : Ref sig .tc := ⟨.hbm, 233, rfl⟩
abbrev main_call2_v33 : Ref sig .tc := ⟨.hbm, 234, rfl⟩
abbrev main_call2_v34 : Ref sig .tc := ⟨.hbm, 235, rfl⟩
abbrev main_call2_c_5 : Ref sig .tc := ⟨.hbm, 236, rfl⟩
abbrev main_call2_v35 : Ref sig .tc := ⟨.hbm, 237, rfl⟩
abbrev main_call2_v36 : Ref sig .tc := ⟨.hbm, 238, rfl⟩
abbrev main_call2_v37 : Ref sig .tc := ⟨.hbm, 239, rfl⟩
abbrev main_call2_c_6 : Ref sig .tc := ⟨.hbm, 240, rfl⟩
abbrev main_call2_v38 : Ref sig .tc := ⟨.hbm, 241, rfl⟩
abbrev main_call2_v39 : Ref sig .tc := ⟨.hbm, 242, rfl⟩
abbrev main_call2_c_7 : Ref sig .tc := ⟨.hbm, 243, rfl⟩
abbrev main_call2_v40 : Ref sig .tc := ⟨.hbm, 244, rfl⟩
abbrev main_call2_v41 : Ref sig .tc := ⟨.hbm, 245, rfl⟩
abbrev main_call2_v42 : Ref sig .tc := ⟨.hbm, 246, rfl⟩
abbrev main_call2_v43 : Ref sig .tc := ⟨.hbm, 247, rfl⟩
abbrev main_call2_v44 : Ref sig .tc := ⟨.hbm, 248, rfl⟩
abbrev main_call2_v45 : Ref sig .tc := ⟨.hbm, 249, rfl⟩
abbrev main_v27_1 : Ref sig .tc := ⟨.hbm, 250, rfl⟩
abbrev main_call2_c_8 : Ref sig .tc := ⟨.hbm, 251, rfl⟩
abbrev main_call2_v47 : Ref sig .tc := ⟨.hbm, 252, rfl⟩
abbrev main_call2_v48 : Ref sig .tc := ⟨.hbm, 253, rfl⟩
abbrev main_call2_c_9 : Ref sig .tc := ⟨.hbm, 254, rfl⟩
abbrev main_call2_v49 : Ref sig .tc := ⟨.hbm, 255, rfl⟩
abbrev main_call2_v50 : Ref sig .tc := ⟨.hbm, 256, rfl⟩
abbrev main_call2_v51 : Ref sig .tc := ⟨.hbm, 257, rfl⟩
abbrev main_call2_c_10 : Ref sig .tc := ⟨.hbm, 258, rfl⟩
abbrev main_call2_v52 : Ref sig .tc := ⟨.hbm, 259, rfl⟩
abbrev main_call2_v53 : Ref sig .tc := ⟨.hbm, 260, rfl⟩
abbrev main_call2_c_11 : Ref sig .tc := ⟨.hbm, 261, rfl⟩
abbrev main_call2_v54 : Ref sig .tc := ⟨.hbm, 262, rfl⟩
abbrev main_call2_v55 : Ref sig .tc := ⟨.hbm, 263, rfl⟩
abbrev main_call2_v56 : Ref sig .tc := ⟨.hbm, 264, rfl⟩
abbrev main_call2_v57 : Ref sig .tc := ⟨.hbm, 265, rfl⟩
abbrev main_call2_v58 : Ref sig .tc := ⟨.hbm, 266, rfl⟩
abbrev main_call2_v59 : Ref sig .tc := ⟨.hbm, 267, rfl⟩
abbrev main_v27_2 : Ref sig .tc := ⟨.hbm, 268, rfl⟩
abbrev main_v28 : Ref sig .tc := ⟨.hbm, 269, rfl⟩
abbrev main_v29 : Ref sig .tc := ⟨.hbm, 270, rfl⟩
abbrev main_v30 : Ref sig .tc := ⟨.hbm, 271, rfl⟩
abbrev main_v31 : Ref sig .tc := ⟨.hbm, 272, rfl⟩
abbrev main_call3_v0 : Ref sig .tc := ⟨.hbm, 273, rfl⟩
abbrev main_call3_v1 : Ref sig .tc := ⟨.hbm, 274, rfl⟩
abbrev main_call3_cst : Ref sig .tc := ⟨.hbm, 275, rfl⟩
abbrev main_call3_v2 : Ref sig .tc := ⟨.hbm, 276, rfl⟩
abbrev main_call3_v3 : Ref sig .tc := ⟨.hbm, 277, rfl⟩
abbrev main_call3_v4 : Ref sig .tc := ⟨.hbm, 278, rfl⟩
abbrev main_call3_v5 : Ref sig .tc := ⟨.hbm, 279, rfl⟩
abbrev main_call3_cst_0 : Ref sig .tc := ⟨.hbm, 280, rfl⟩
abbrev main_call3_v6 : Ref sig .tc := ⟨.hbm, 281, rfl⟩
abbrev main_call3_call0_v0 : Ref sig .tc := ⟨.hbm, 282, rfl⟩
abbrev main_call3_call0_cst : Ref sig .tc := ⟨.hbm, 283, rfl⟩
abbrev main_call3_call0_c : Ref sig .tc := ⟨.hbm, 284, rfl⟩
abbrev main_call3_call0_v1_0 : Ref sig .tc := ⟨.hbm, 285, rfl⟩
abbrev main_call3_v7 : Ref sig .tc := ⟨.hbm, 286, rfl⟩
abbrev main_call3_v8 : Ref sig .tc := ⟨.hbm, 287, rfl⟩
abbrev main_call3_v9 : Ref sig .tc := ⟨.hbm, 288, rfl⟩
abbrev main_call3_v10 : Ref sig .tc := ⟨.hbm, 289, rfl⟩
abbrev main_call3_v11 : Ref sig .tc := ⟨.hbm, 290, rfl⟩
abbrev main_call3_v12 : Ref sig .tc := ⟨.hbm, 291, rfl⟩
abbrev main_call3_v13 : Ref sig .tc := ⟨.hbm, 292, rfl⟩
abbrev main_call3_c : Ref sig .tc := ⟨.hbm, 293, rfl⟩
abbrev main_call3_v14 : Ref sig .tc := ⟨.hbm, 294, rfl⟩
abbrev main_call3_v15 : Ref sig .tc := ⟨.hbm, 295, rfl⟩
abbrev main_call3_c_1 : Ref sig .tc := ⟨.hbm, 296, rfl⟩
abbrev main_call3_v16 : Ref sig .tc := ⟨.hbm, 297, rfl⟩
abbrev main_call3_v17 : Ref sig .tc := ⟨.hbm, 298, rfl⟩
abbrev main_call3_v18 : Ref sig .tc := ⟨.hbm, 299, rfl⟩
abbrev main_call3_c_2 : Ref sig .tc := ⟨.hbm, 300, rfl⟩
abbrev main_call3_v19 : Ref sig .tc := ⟨.hbm, 301, rfl⟩
abbrev main_call3_v20 : Ref sig .tc := ⟨.hbm, 302, rfl⟩
abbrev main_call3_c_3 : Ref sig .tc := ⟨.hbm, 303, rfl⟩
abbrev main_call3_v21 : Ref sig .tc := ⟨.hbm, 304, rfl⟩
abbrev main_call3_v22 : Ref sig .tc := ⟨.hbm, 305, rfl⟩
abbrev main_call3_v23 : Ref sig .tc := ⟨.hbm, 306, rfl⟩
abbrev main_call3_v24 : Ref sig .tc := ⟨.hbm, 307, rfl⟩
abbrev main_call3_v25 : Ref sig .tc := ⟨.hbm, 308, rfl⟩
abbrev main_call3_v26 : Ref sig .tc := ⟨.hbm, 309, rfl⟩
abbrev main_v32_0 : Ref sig .tc := ⟨.hbm, 310, rfl⟩
abbrev main_v32_3 : Ref sig .tc := ⟨.hbm, 311, rfl⟩
abbrev main_call3_v29 : Ref sig .tc := ⟨.hbm, 312, rfl⟩
abbrev main_call3_v30 : Ref sig .tc := ⟨.hbm, 313, rfl⟩
abbrev main_call3_v31 : Ref sig .tc := ⟨.hbm, 314, rfl⟩
abbrev main_call3_v32 : Ref sig .tc := ⟨.hbm, 315, rfl⟩
abbrev main_call3_c_4 : Ref sig .tc := ⟨.hbm, 316, rfl⟩
abbrev main_call3_v33 : Ref sig .tc := ⟨.hbm, 317, rfl⟩
abbrev main_call3_v34 : Ref sig .tc := ⟨.hbm, 318, rfl⟩
abbrev main_call3_c_5 : Ref sig .tc := ⟨.hbm, 319, rfl⟩
abbrev main_call3_v35 : Ref sig .tc := ⟨.hbm, 320, rfl⟩
abbrev main_call3_v36 : Ref sig .tc := ⟨.hbm, 321, rfl⟩
abbrev main_call3_v37 : Ref sig .tc := ⟨.hbm, 322, rfl⟩
abbrev main_call3_c_6 : Ref sig .tc := ⟨.hbm, 323, rfl⟩
abbrev main_call3_v38 : Ref sig .tc := ⟨.hbm, 324, rfl⟩
abbrev main_call3_v39 : Ref sig .tc := ⟨.hbm, 325, rfl⟩
abbrev main_call3_c_7 : Ref sig .tc := ⟨.hbm, 326, rfl⟩
abbrev main_call3_v40 : Ref sig .tc := ⟨.hbm, 327, rfl⟩
abbrev main_call3_v41 : Ref sig .tc := ⟨.hbm, 328, rfl⟩
abbrev main_call3_v42 : Ref sig .tc := ⟨.hbm, 329, rfl⟩
abbrev main_call3_v43 : Ref sig .tc := ⟨.hbm, 330, rfl⟩
abbrev main_call3_v44 : Ref sig .tc := ⟨.hbm, 331, rfl⟩
abbrev main_call3_v45 : Ref sig .tc := ⟨.hbm, 332, rfl⟩
abbrev main_v32_1 : Ref sig .tc := ⟨.hbm, 333, rfl⟩
abbrev main_call3_c_8 : Ref sig .tc := ⟨.hbm, 334, rfl⟩
abbrev main_call3_v47 : Ref sig .tc := ⟨.hbm, 335, rfl⟩
abbrev main_call3_v48 : Ref sig .tc := ⟨.hbm, 336, rfl⟩
abbrev main_call3_c_9 : Ref sig .tc := ⟨.hbm, 337, rfl⟩
abbrev main_call3_v49 : Ref sig .tc := ⟨.hbm, 338, rfl⟩
abbrev main_call3_v50 : Ref sig .tc := ⟨.hbm, 339, rfl⟩
abbrev main_call3_v51 : Ref sig .tc := ⟨.hbm, 340, rfl⟩
abbrev main_call3_c_10 : Ref sig .tc := ⟨.hbm, 341, rfl⟩
abbrev main_call3_v52 : Ref sig .tc := ⟨.hbm, 342, rfl⟩
abbrev main_call3_v53 : Ref sig .tc := ⟨.hbm, 343, rfl⟩
abbrev main_call3_c_11 : Ref sig .tc := ⟨.hbm, 344, rfl⟩
abbrev main_call3_v54 : Ref sig .tc := ⟨.hbm, 345, rfl⟩
abbrev main_call3_v55 : Ref sig .tc := ⟨.hbm, 346, rfl⟩
abbrev main_call3_v56 : Ref sig .tc := ⟨.hbm, 347, rfl⟩
abbrev main_call3_v57 : Ref sig .tc := ⟨.hbm, 348, rfl⟩
abbrev main_call3_v58 : Ref sig .tc := ⟨.hbm, 349, rfl⟩
abbrev main_call3_v59 : Ref sig .tc := ⟨.hbm, 350, rfl⟩
abbrev main_v32_2 : Ref sig .tc := ⟨.hbm, 351, rfl⟩
abbrev main_v33 : Ref sig .tc := ⟨.hbm, 352, rfl⟩
abbrev main_v34 : Ref sig .tc := ⟨.hbm, 353, rfl⟩
abbrev main_v35 : Ref sig .tc := ⟨.hbm, 354, rfl⟩
abbrev main_v36 : Ref sig .tc := ⟨.hbm, 355, rfl⟩
abbrev main_call4_v0 : Ref sig .tc := ⟨.hbm, 356, rfl⟩
abbrev main_call4_v1 : Ref sig .tc := ⟨.hbm, 357, rfl⟩
abbrev main_call4_cst : Ref sig .tc := ⟨.hbm, 358, rfl⟩
abbrev main_call4_v2 : Ref sig .tc := ⟨.hbm, 359, rfl⟩
abbrev main_call4_v3 : Ref sig .tc := ⟨.hbm, 360, rfl⟩
abbrev main_call4_v4 : Ref sig .tc := ⟨.hbm, 361, rfl⟩
abbrev main_call4_v5 : Ref sig .tc := ⟨.hbm, 362, rfl⟩
abbrev main_call4_cst_0 : Ref sig .tc := ⟨.hbm, 363, rfl⟩
abbrev main_call4_v6 : Ref sig .tc := ⟨.hbm, 364, rfl⟩
abbrev main_call4_call0_v0 : Ref sig .tc := ⟨.hbm, 365, rfl⟩
abbrev main_call4_call0_cst : Ref sig .tc := ⟨.hbm, 366, rfl⟩
abbrev main_call4_call0_c : Ref sig .tc := ⟨.hbm, 367, rfl⟩
abbrev main_call4_call0_v1_0 : Ref sig .tc := ⟨.hbm, 368, rfl⟩
abbrev main_call4_v7 : Ref sig .tc := ⟨.hbm, 369, rfl⟩
abbrev main_call4_v8 : Ref sig .tc := ⟨.hbm, 370, rfl⟩
abbrev main_call4_v9 : Ref sig .tc := ⟨.hbm, 371, rfl⟩
abbrev main_call4_v10 : Ref sig .tc := ⟨.hbm, 372, rfl⟩
abbrev main_call4_v11 : Ref sig .tc := ⟨.hbm, 373, rfl⟩
abbrev main_call4_v12 : Ref sig .tc := ⟨.hbm, 374, rfl⟩
abbrev main_call4_v13 : Ref sig .tc := ⟨.hbm, 375, rfl⟩
abbrev main_call4_c : Ref sig .tc := ⟨.hbm, 376, rfl⟩
abbrev main_call4_v14 : Ref sig .tc := ⟨.hbm, 377, rfl⟩
abbrev main_call4_v15 : Ref sig .tc := ⟨.hbm, 378, rfl⟩
abbrev main_call4_c_1 : Ref sig .tc := ⟨.hbm, 379, rfl⟩
abbrev main_call4_v16 : Ref sig .tc := ⟨.hbm, 380, rfl⟩
abbrev main_call4_v17 : Ref sig .tc := ⟨.hbm, 381, rfl⟩
abbrev main_call4_v18 : Ref sig .tc := ⟨.hbm, 382, rfl⟩
abbrev main_call4_c_2 : Ref sig .tc := ⟨.hbm, 383, rfl⟩
abbrev main_call4_v19 : Ref sig .tc := ⟨.hbm, 384, rfl⟩
abbrev main_call4_v20 : Ref sig .tc := ⟨.hbm, 385, rfl⟩
abbrev main_call4_c_3 : Ref sig .tc := ⟨.hbm, 386, rfl⟩
abbrev main_call4_v21 : Ref sig .tc := ⟨.hbm, 387, rfl⟩
abbrev main_call4_v22 : Ref sig .tc := ⟨.hbm, 388, rfl⟩
abbrev main_call4_v23 : Ref sig .tc := ⟨.hbm, 389, rfl⟩
abbrev main_call4_v24 : Ref sig .tc := ⟨.hbm, 390, rfl⟩
abbrev main_call4_v25 : Ref sig .tc := ⟨.hbm, 391, rfl⟩
abbrev main_call4_v26 : Ref sig .tc := ⟨.hbm, 392, rfl⟩
abbrev main_v37_0 : Ref sig .tc := ⟨.hbm, 393, rfl⟩
abbrev main_v37_3 : Ref sig .tc := ⟨.hbm, 394, rfl⟩
abbrev main_call4_v29 : Ref sig .tc := ⟨.hbm, 395, rfl⟩
abbrev main_call4_v30 : Ref sig .tc := ⟨.hbm, 396, rfl⟩
abbrev main_call4_v31 : Ref sig .tc := ⟨.hbm, 397, rfl⟩
abbrev main_call4_v32 : Ref sig .tc := ⟨.hbm, 398, rfl⟩
abbrev main_call4_c_4 : Ref sig .tc := ⟨.hbm, 399, rfl⟩
abbrev main_call4_v33 : Ref sig .tc := ⟨.hbm, 400, rfl⟩
abbrev main_call4_v34 : Ref sig .tc := ⟨.hbm, 401, rfl⟩
abbrev main_call4_c_5 : Ref sig .tc := ⟨.hbm, 402, rfl⟩
abbrev main_call4_v35 : Ref sig .tc := ⟨.hbm, 403, rfl⟩
abbrev main_call4_v36 : Ref sig .tc := ⟨.hbm, 404, rfl⟩
abbrev main_call4_v37 : Ref sig .tc := ⟨.hbm, 405, rfl⟩
abbrev main_call4_c_6 : Ref sig .tc := ⟨.hbm, 406, rfl⟩
abbrev main_call4_v38 : Ref sig .tc := ⟨.hbm, 407, rfl⟩
abbrev main_call4_v39 : Ref sig .tc := ⟨.hbm, 408, rfl⟩
abbrev main_call4_c_7 : Ref sig .tc := ⟨.hbm, 409, rfl⟩
abbrev main_call4_v40 : Ref sig .tc := ⟨.hbm, 410, rfl⟩
abbrev main_call4_v41 : Ref sig .tc := ⟨.hbm, 411, rfl⟩
abbrev main_call4_v42 : Ref sig .tc := ⟨.hbm, 412, rfl⟩
abbrev main_call4_v43 : Ref sig .tc := ⟨.hbm, 413, rfl⟩
abbrev main_call4_v44 : Ref sig .tc := ⟨.hbm, 414, rfl⟩
abbrev main_call4_v45 : Ref sig .tc := ⟨.hbm, 415, rfl⟩
abbrev main_v37_1 : Ref sig .tc := ⟨.hbm, 416, rfl⟩
abbrev main_call4_c_8 : Ref sig .tc := ⟨.hbm, 417, rfl⟩
abbrev main_call4_v47 : Ref sig .tc := ⟨.hbm, 418, rfl⟩
abbrev main_call4_v48 : Ref sig .tc := ⟨.hbm, 419, rfl⟩
abbrev main_call4_c_9 : Ref sig .tc := ⟨.hbm, 420, rfl⟩
abbrev main_call4_v49 : Ref sig .tc := ⟨.hbm, 421, rfl⟩
abbrev main_call4_v50 : Ref sig .tc := ⟨.hbm, 422, rfl⟩
abbrev main_call4_v51 : Ref sig .tc := ⟨.hbm, 423, rfl⟩
abbrev main_call4_c_10 : Ref sig .tc := ⟨.hbm, 424, rfl⟩
abbrev main_call4_v52 : Ref sig .tc := ⟨.hbm, 425, rfl⟩
abbrev main_call4_v53 : Ref sig .tc := ⟨.hbm, 426, rfl⟩
abbrev main_call4_c_11 : Ref sig .tc := ⟨.hbm, 427, rfl⟩
abbrev main_call4_v54 : Ref sig .tc := ⟨.hbm, 428, rfl⟩
abbrev main_call4_v55 : Ref sig .tc := ⟨.hbm, 429, rfl⟩
abbrev main_call4_v56 : Ref sig .tc := ⟨.hbm, 430, rfl⟩
abbrev main_call4_v57 : Ref sig .tc := ⟨.hbm, 431, rfl⟩
abbrev main_call4_v58 : Ref sig .tc := ⟨.hbm, 432, rfl⟩
abbrev main_call4_v59 : Ref sig .tc := ⟨.hbm, 433, rfl⟩
abbrev main_v37_2 : Ref sig .tc := ⟨.hbm, 434, rfl⟩
abbrev main_v38 : Ref sig .tc := ⟨.hbm, 435, rfl⟩
abbrev main_v39 : Ref sig .tc := ⟨.hbm, 436, rfl⟩
abbrev main_v40 : Ref sig .tc := ⟨.hbm, 437, rfl⟩
abbrev main_v41 : Ref sig .tc := ⟨.hbm, 438, rfl⟩
abbrev main_call5_v0 : Ref sig .tc := ⟨.hbm, 439, rfl⟩
abbrev main_call5_v1 : Ref sig .tc := ⟨.hbm, 440, rfl⟩
abbrev main_call5_cst : Ref sig .tc := ⟨.hbm, 441, rfl⟩
abbrev main_call5_v2 : Ref sig .tc := ⟨.hbm, 442, rfl⟩
abbrev main_call5_v3 : Ref sig .tc := ⟨.hbm, 443, rfl⟩
abbrev main_call5_v4 : Ref sig .tc := ⟨.hbm, 444, rfl⟩
abbrev main_call5_v5 : Ref sig .tc := ⟨.hbm, 445, rfl⟩
abbrev main_call5_cst_0 : Ref sig .tc := ⟨.hbm, 446, rfl⟩
abbrev main_call5_v6 : Ref sig .tc := ⟨.hbm, 447, rfl⟩
abbrev main_call5_call0_v0 : Ref sig .tc := ⟨.hbm, 448, rfl⟩
abbrev main_call5_call0_cst : Ref sig .tc := ⟨.hbm, 449, rfl⟩
abbrev main_call5_call0_c : Ref sig .tc := ⟨.hbm, 450, rfl⟩
abbrev main_call5_call0_v1_0 : Ref sig .tc := ⟨.hbm, 451, rfl⟩
abbrev main_call5_v7 : Ref sig .tc := ⟨.hbm, 452, rfl⟩
abbrev main_call5_v8 : Ref sig .tc := ⟨.hbm, 453, rfl⟩
abbrev main_call5_v9 : Ref sig .tc := ⟨.hbm, 454, rfl⟩
abbrev main_call5_v10 : Ref sig .tc := ⟨.hbm, 455, rfl⟩
abbrev main_call5_v11 : Ref sig .tc := ⟨.hbm, 456, rfl⟩
abbrev main_call5_v12 : Ref sig .tc := ⟨.hbm, 457, rfl⟩
abbrev main_call5_v13 : Ref sig .tc := ⟨.hbm, 458, rfl⟩
abbrev main_call5_c : Ref sig .tc := ⟨.hbm, 459, rfl⟩
abbrev main_call5_v14 : Ref sig .tc := ⟨.hbm, 460, rfl⟩
abbrev main_call5_v15 : Ref sig .tc := ⟨.hbm, 461, rfl⟩
abbrev main_call5_c_1 : Ref sig .tc := ⟨.hbm, 462, rfl⟩
abbrev main_call5_v16 : Ref sig .tc := ⟨.hbm, 463, rfl⟩
abbrev main_call5_v17 : Ref sig .tc := ⟨.hbm, 464, rfl⟩
abbrev main_call5_v18 : Ref sig .tc := ⟨.hbm, 465, rfl⟩
abbrev main_call5_c_2 : Ref sig .tc := ⟨.hbm, 466, rfl⟩
abbrev main_call5_v19 : Ref sig .tc := ⟨.hbm, 467, rfl⟩
abbrev main_call5_v20 : Ref sig .tc := ⟨.hbm, 468, rfl⟩
abbrev main_call5_c_3 : Ref sig .tc := ⟨.hbm, 469, rfl⟩
abbrev main_call5_v21 : Ref sig .tc := ⟨.hbm, 470, rfl⟩
abbrev main_call5_v22 : Ref sig .tc := ⟨.hbm, 471, rfl⟩
abbrev main_call5_v23 : Ref sig .tc := ⟨.hbm, 472, rfl⟩
abbrev main_call5_v24 : Ref sig .tc := ⟨.hbm, 473, rfl⟩
abbrev main_call5_v25 : Ref sig .tc := ⟨.hbm, 474, rfl⟩
abbrev main_call5_v26 : Ref sig .tc := ⟨.hbm, 475, rfl⟩
abbrev main_v42_0 : Ref sig .tc := ⟨.hbm, 476, rfl⟩
abbrev main_v42_3 : Ref sig .tc := ⟨.hbm, 477, rfl⟩
abbrev main_call5_v29 : Ref sig .tc := ⟨.hbm, 478, rfl⟩
abbrev main_call5_v30 : Ref sig .tc := ⟨.hbm, 479, rfl⟩
abbrev main_call5_v31 : Ref sig .tc := ⟨.hbm, 480, rfl⟩
abbrev main_call5_v32 : Ref sig .tc := ⟨.hbm, 481, rfl⟩
abbrev main_call5_c_4 : Ref sig .tc := ⟨.hbm, 482, rfl⟩
abbrev main_call5_v33 : Ref sig .tc := ⟨.hbm, 483, rfl⟩
abbrev main_call5_v34 : Ref sig .tc := ⟨.hbm, 484, rfl⟩
abbrev main_call5_c_5 : Ref sig .tc := ⟨.hbm, 485, rfl⟩
abbrev main_call5_v35 : Ref sig .tc := ⟨.hbm, 486, rfl⟩
abbrev main_call5_v36 : Ref sig .tc := ⟨.hbm, 487, rfl⟩
abbrev main_call5_v37 : Ref sig .tc := ⟨.hbm, 488, rfl⟩
abbrev main_call5_c_6 : Ref sig .tc := ⟨.hbm, 489, rfl⟩
abbrev main_call5_v38 : Ref sig .tc := ⟨.hbm, 490, rfl⟩
abbrev main_call5_v39 : Ref sig .tc := ⟨.hbm, 491, rfl⟩
abbrev main_call5_c_7 : Ref sig .tc := ⟨.hbm, 492, rfl⟩
abbrev main_call5_v40 : Ref sig .tc := ⟨.hbm, 493, rfl⟩
abbrev main_call5_v41 : Ref sig .tc := ⟨.hbm, 494, rfl⟩
abbrev main_call5_v42 : Ref sig .tc := ⟨.hbm, 495, rfl⟩
abbrev main_call5_v43 : Ref sig .tc := ⟨.hbm, 496, rfl⟩
abbrev main_call5_v44 : Ref sig .tc := ⟨.hbm, 497, rfl⟩
abbrev main_call5_v45 : Ref sig .tc := ⟨.hbm, 498, rfl⟩
abbrev main_v42_1 : Ref sig .tc := ⟨.hbm, 499, rfl⟩
abbrev main_call5_c_8 : Ref sig .tc := ⟨.hbm, 500, rfl⟩
abbrev main_call5_v47 : Ref sig .tc := ⟨.hbm, 501, rfl⟩
abbrev main_call5_v48 : Ref sig .tc := ⟨.hbm, 502, rfl⟩
abbrev main_call5_c_9 : Ref sig .tc := ⟨.hbm, 503, rfl⟩
abbrev main_call5_v49 : Ref sig .tc := ⟨.hbm, 504, rfl⟩
abbrev main_call5_v50 : Ref sig .tc := ⟨.hbm, 505, rfl⟩
abbrev main_call5_v51 : Ref sig .tc := ⟨.hbm, 506, rfl⟩
abbrev main_call5_c_10 : Ref sig .tc := ⟨.hbm, 507, rfl⟩
abbrev main_call5_v52 : Ref sig .tc := ⟨.hbm, 508, rfl⟩
abbrev main_call5_v53 : Ref sig .tc := ⟨.hbm, 509, rfl⟩
abbrev main_call5_c_11 : Ref sig .tc := ⟨.hbm, 510, rfl⟩
abbrev main_call5_v54 : Ref sig .tc := ⟨.hbm, 511, rfl⟩
abbrev main_call5_v55 : Ref sig .tc := ⟨.hbm, 512, rfl⟩
abbrev main_call5_v56 : Ref sig .tc := ⟨.hbm, 513, rfl⟩
abbrev main_call5_v57 : Ref sig .tc := ⟨.hbm, 514, rfl⟩
abbrev main_call5_v58 : Ref sig .tc := ⟨.hbm, 515, rfl⟩
abbrev main_call5_v59 : Ref sig .tc := ⟨.hbm, 516, rfl⟩
abbrev main_v42_2 : Ref sig .tc := ⟨.hbm, 517, rfl⟩
abbrev main_v43 : Ref sig .tc := ⟨.hbm, 518, rfl⟩
abbrev main_v44 : Ref sig .tc := ⟨.hbm, 519, rfl⟩

abbrev nD : Nat := 1
abbrev τ : Topo := Topo.v7x

variable {F : FTy → Type} [FloatOps F]
-- ==== Proof.Straight.lean ====
/- A straight line of host operations in which every buffer is written once, read at its end: each result is its
   operation's function of the operands, all read after the whole line. -/
module

public import Idealize.ShloMosaic.Lib.Pipeline.Frame

@[expose] public section

namespace Cert.Straight

open Idealize.ShloMosaic Idealize.ShloMosaic.TcCoe Idealize.ShloMosaic.StableHlo

variable {τ : Topo} {sig : RefSig} {Val : EltTy → Type}

/-- The contents of a typed reference under a valuation. -/
abbrev rd {T : BufTy} (V : Valuation τ sig Val) (x : TRef sig T) : T.Contents Val := x.ofBuf (V (Proc.devRef .tc x.ref))

/-- The operations `ops` write the references `W`, one each, in order, and no reference twice. -/
structure Line (ops : List (HloOp τ sig Val)) (W : List (Ref sig .tc)) : Prop where
  writes : ops.map HloOp.writes = W.map fun r => {Proc.devRef (τ := τ) .tc r}
  nodup : W.Nodup

namespace Line

variable {ops : List (HloOp τ sig Val)} {W : List (Ref sig .tc)} {T Tx Ta Tb Tc Ty : BufTy}

/-- A reference the line does not write keeps its contents. -/
theorem keep (h : Line ops W) (V : Valuation τ sig Val) (x : TRef sig T) (hx : x.ref ∉ W) : rd (after ops V) x = rd V x :=
  congrArg x.ofBuf (after_of_writes_sub ops V (forall_writes_sub_of_map h.writes) hx)

/-- A reference written by operation `k` is not written again at or after `i`, where `k < i`. -/
theorem avail (h : Line ops W) {i k : ℕ} {r : Ref sig .tc} (hr : W[k]? = some r) (hk : k < i) : r ∉ W.drop i := by
  intro hm
  obtain ⟨n, hn, he⟩ := List.mem_iff_getElem.mp hm
  rw [List.getElem_drop] at he
  obtain ⟨hk', hr'⟩ := List.getElem?_eq_some_iff.mp hr
  have := (List.Nodup.getElem_inj_iff h.nodup).mp (hr'.trans he.symm)
  omega

/-- A reference the line never writes is not written at or after `i`. -/
theorem never {i : ℕ} {r : Ref sig .tc} (hr : r ∉ W) : r ∉ W.drop i := fun h => hr (List.mem_of_mem_drop h)

/-- The contents before operation `i`: they agree with the end on every reference not written from `i` on, and the
    reference operation `i` writes ends at that operation's result. -/
theorem split (h : Line ops W) {i : ℕ} {op : HloOp τ sig Val} (hop : ops[i]? = some op) {y : Ref sig .tc} (hy : W[i]? = some y)
    (V : Valuation τ sig Val) :
    ∃ U : Valuation τ sig Val, (∀ r : Ref sig .tc, r ∉ W.drop i → U (Proc.devRef .tc r) = after ops V (Proc.devRef .tc r))
      ∧ after ops V (Proc.devRef .tc y) = op.result U (Proc.devRef .tc y) := by
  obtain ⟨hi, ho⟩ := List.getElem?_eq_some_iff.mp hop
  have hops : ops = ops.take i ++ op :: ops.drop (i + 1) := by
    rw [← ho, ← List.drop_eq_getElem_cons hi, List.take_append_drop]
  have hV : after ops V = after (op :: ops.drop (i + 1)) (after (ops.take i) V) := by
    conv_lhs => rw [hops]
    exact after_append _ _ _
  have hw : ∀ n, (ops.drop n).map HloOp.writes = (W.drop n).map fun r => {Proc.devRef (τ := τ) .tc r} := fun n => by
    rw [List.map_drop, List.map_drop, h.writes]
  refine ⟨after (ops.take i) V, fun r hr => ?_, ?_⟩
  · rw [hV]
    have e : op :: ops.drop (i + 1) = ops.drop i := by rw [← ho, ← List.drop_eq_getElem_cons hi]
    rw [e]
    exact (after_of_writes_sub _ _ (forall_writes_sub_of_map (hw i)) hr).symm
  · rw [hV, after_cons]
    exact after_of_writes_sub _ _ (forall_writes_sub_of_map (hw (i + 1))) (h.avail hy (Nat.lt_succ_self i))

/-- A constant of the line, read at its end. -/
theorem nullary (h : Line ops W) (V : Valuation τ sig Val) (i : ℕ) {y : TRef sig Ty} {v : Ty.Contents Val}
    (hop : ops[i]? = some (TRef.nullary y v)) (hy : W[i]? = some y.ref) : rd (after ops V) y = v := by
  obtain ⟨U, -, hr⟩ := h.split hop hy V
  unfold rd
  rw [hr, nullary_result, TRef.ofBuf_toBuf]

/-- An operation of one operand, read at the line's end. -/
theorem unary (h : Line ops W) (V : Valuation τ sig Val) (i : ℕ) {x : TRef sig Tx} {y : TRef sig Ty}
    {f : Tx.Contents Val → Ty.Contents Val}
    (hop : ops[i]? = some (TRef.unary x y f)) (hy : W[i]? = some y.ref) (hx : x.ref ∉ W.drop i) :
    rd (after ops V) y = f (rd (after ops V) x) := by
  obtain ⟨U, hU, hr⟩ := h.split hop hy V
  unfold rd
  rw [hr, unary_result, TRef.ofBuf_toBuf, hU _ hx]

/-- An operation of two operands, read at the line's end. -/
theorem binary (h : Line ops W) (V : Valuation τ sig Val) (i : ℕ) {a : TRef sig Ta} {b : TRef sig Tb} {y : TRef sig Ty}
    {f : Ta.Contents Val → Tb.Contents Val → Ty.Contents Val}
    (hop : ops[i]? = some (TRef.binary a b y f)) (hy : W[i]? = some y.ref) (ha : a.ref ∉ W.drop i) (hb : b.ref ∉ W.drop i) :
    rd (after ops V) y = f (rd (after ops V) a) (rd (after ops V) b) := by
  obtain ⟨U, hU, hr⟩ := h.split hop hy V
  unfold rd
  rw [hr, binary_result, TRef.ofBuf_toBuf, hU _ ha, hU _ hb]

/-- An operation of three operands, read at the line's end. -/
theorem ternary (h : Line ops W) (V : Valuation τ sig Val) (i : ℕ) {c : TRef sig Tc} {a : TRef sig Ta} {b : TRef sig Tb}
    {y : TRef sig Ty} {f : Tc.Contents Val → Ta.Contents Val → Tb.Contents Val → Ty.Contents Val}
    (hop : ops[i]? = some (TRef.ternary c a b y f)) (hy : W[i]? = some y.ref) (hc : c.ref ∉ W.drop i) (ha : a.ref ∉ W.drop i)
    (hb : b.ref ∉ W.drop i) :
    rd (after ops V) y = f (rd (after ops V) c) (rd (after ops V) a) (rd (after ops V) b) := by
  obtain ⟨U, hU, hr⟩ := h.split hop hy V
  unfold rd
  rw [hr, ternary_result, TRef.ofBuf_toBuf, hU _ hc, hU _ ha, hU _ hb]

/-- An operation of four operands, read at the line's end. -/
theorem quaternary (h : Line ops W) (V : Valuation τ sig Val) (i : ℕ) {Te : BufTy} {a : TRef sig Ta} {b : TRef sig Tb}
    {c : TRef sig Tc} {e : TRef sig Te} {y : TRef sig Ty}
    {f : Ta.Contents Val → Tb.Contents Val → Tc.Contents Val → Te.Contents Val → Ty.Contents Val}
    (hop : ops[i]? = some (TRef.quaternary a b c e y f)) (hy : W[i]? = some y.ref) (ha : a.ref ∉ W.drop i)
    (hb : b.ref ∉ W.drop i) (hc : c.ref ∉ W.drop i) (he : e.ref ∉ W.drop i) :
    rd (after ops V) y = f (rd (after ops V) a) (rd (after ops V) b) (rd (after ops V) c) (rd (after ops V) e) := by
  obtain ⟨U, hU, hr⟩ := h.split hop hy V
  unfold rd
  rw [hr, quaternary_result, TRef.ofBuf_toBuf, hU _ ha, hU _ hb, hU _ hc, hU _ he]

end Line

end Cert.Straight
-- ==== Proof.RefRun.lean ====
/- The reference program as one list of operations and its run: every execution ends with each buffer at what the list
   leaves. One round of the loop is one list `stepOps`, over the references a call of it names. -/
module

public import proofs.«01_k».proof.Proof.Gen.ReferenceIdeal
public import proofs.«01_k».proof.Proof.Straight
public import Idealize.ShloMosaic.Lib.Pipeline.Frame

@[expose] public section

noncomputable section

namespace Cert.RefRun

open Cert.ReferenceIdeal Cert.ReferenceIdeal.Gen Cert.Straight
open Idealize.ShloMosaic Idealize.ShloMosaic.TcCoe Idealize.SL.Sem Idealize.ShloMosaic.StableHlo

variable {F : FTy → Type} [FloatOps F]

/-- The references of one round's operands: weights, features, units, the row of `L`, the bias. -/
structure Args where
  w : TRef sig ⟨S131072x64, .f32⟩
  f : TRef sig ⟨S131072x64x1, .f32⟩
  h : TRef sig ⟨S131072x64x1, .f32⟩
  l : TRef sig ⟨S64, .f32⟩
  b : TRef sig ⟨S1, .f32⟩

/-- One round's operations. -/
abbrev stepOps (a : Args) (φ : fn_step.Bufs) : List (HloOp τ sig (Elt F)) :=
  [ TRef.nullary φ.v0 (iotaInDim S131072 32 0),
    TRef.unary a.l φ.v1 (broadcastInDim S1x64 ![1] bcast_S64_S1x64_1),
    TRef.nullary φ.cst (constant S_ .f32 0x1E3CE508#32),
    TRef.unary φ.cst φ.v2 (broadcastInDim S1x64 ![] bcast_S_S1x64),
    TRef.binary φ.v1 φ.v2 φ.v3 addf,
    TRef.unary φ.v3 φ.v4 (broadcastInDim S131072x64 ![0, 1] bcast_S1x64_S131072x64_0_1),
    TRef.binary a.w φ.v4 φ.v5 Host.divf,
    TRef.nullary φ.cst_0 (constant S_ .f32 0x7F800000#32),
    TRef.binary φ.v5 φ.cst_0 φ.v6 (fun x v => Host.reduce FloatOps.minimumf x v reducesTo_S131072x64_S131072_d1 h_S_),
    TRef.nullary φ.call0.v0 (iotaInDim S131072x64 32 1),
    TRef.nullary φ.call0.cst (constant S_ .f32 0x7F800000#32),
    TRef.nullary φ.call0.c (constantI S_ 32 0#32),
    TRef.quaternary φ.v5 φ.call0.v0 φ.call0.cst φ.call0.c φ.call0.v1_0 (fun x y u v j => (Host.argReduce reducer_argmin_f32_i32 x y u v reducesTo_S131072x64_S131072_d1 h_S_ j).1),
    TRef.quaternary φ.v5 φ.call0.v0 φ.call0.cst φ.call0.c φ.call0.v1_1 (fun x y u v j => (Host.argReduce reducer_argmin_f32_i32 x y u v reducesTo_S131072x64_S131072_d1 h_S_ j).2),
    TRef.unary φ.v6 φ.v8 (broadcastInDim S131072x1 ![0] bcast_S131072_S131072x1_0),
    TRef.unary a.l φ.v9 (broadcastInDim S1x64 ![1] bcast_S64_S1x64_1),
    TRef.unary φ.v8 φ.v10 (broadcastInDim S131072x64 ![0, 1] bcast_S131072x1_S131072x64_0_1),
    TRef.unary φ.v9 φ.v11 (broadcastInDim S131072x64 ![0, 1] bcast_S1x64_S131072x64_0_1),
    TRef.binary φ.v10 φ.v11 φ.v12 mulf,
    TRef.binary a.w φ.v12 φ.v13 subf,
    TRef.nullary φ.c (constantI S_ 32 0#32),
    TRef.unary φ.c φ.v14 (broadcastInDim S131072 ![] bcast_S_S131072),
    TRef.binary φ.v0 φ.v14 φ.v15 (cmpi .slt),
    TRef.nullary φ.c_1 (constantI S_ 32 131072#32),
    TRef.unary φ.c_1 φ.v16 (broadcastInDim S131072 ![] bcast_S_S131072),
    TRef.binary φ.v0 φ.v16 φ.v17 addi,
    TRef.ternary φ.v15 φ.v17 φ.v0 φ.v18 select,
    TRef.nullary φ.c_2 (constantI S_ 32 0#32),
    TRef.unary φ.c_2 φ.v19 (broadcastInDim S131072 ![] bcast_S_S131072),
    TRef.binary φ.call0.v1_1 φ.v19 φ.v20 (cmpi .slt),
    TRef.nullary φ.c_3 (constantI S_ 32 64#32),
    TRef.unary φ.c_3 φ.v21 (broadcastInDim S131072 ![] bcast_S_S131072),
    TRef.binary φ.call0.v1_1 φ.v21 φ.v22 addi,
    TRef.ternary φ.v20 φ.v22 φ.call0.v1_1 φ.v23 select,
    TRef.unary φ.v18 φ.v24 (broadcastInDim S131072x1 ![0] bcast_S131072_S131072x1_0),
    TRef.unary φ.v23 φ.v25 (broadcastInDim S131072x1 ![0] bcast_S131072_S131072x1_0),
    TRef.binary φ.v24 φ.v25 φ.v26 (fun a b => concatenate S131072x2 1 [⟨S131072x1, a⟩, ⟨S131072x1, b⟩] concatenates_S131072x1_S131072x1_S131072x2_d1),
    TRef.ternary φ.v13 φ.v26 φ.v6 φ.v27 (fun x i u => Host.scatter scatter_S131072x64_S131072x2_S131072_n_01_01_1 (fun _ b => b) x i u),
    TRef.binary a.l a.h φ.v28 (fun l r => Host.dotGeneral dot_S64_S131072x64x1_S131072x1_0_1_n_02_n_n none l r),
    TRef.binary a.l a.f φ.v29 (fun l r => Host.dotGeneral dot_S64_S131072x64x1_S131072x1_0_1_n_02_n_n none l r),
    TRef.unary a.b φ.v30 (broadcastInDim S1x1 ![1] bcast_S1_S1x1_1),
    TRef.unary φ.v30 φ.v31 (broadcastInDim S131072x1 ![0, 1] bcast_S1x1_S131072x1_0_1),
    TRef.binary φ.v29 φ.v31 φ.v32 addf,
    TRef.nullary φ.c_4 (constantI S_ 32 0#32),
    TRef.unary φ.c_4 φ.v33 (broadcastInDim S131072 ![] bcast_S_S131072),
    TRef.binary φ.v0 φ.v33 φ.v34 (cmpi .slt),
    TRef.nullary φ.c_5 (constantI S_ 32 131072#32),
    TRef.unary φ.c_5 φ.v35 (broadcastInDim S131072 ![] bcast_S_S131072),
    TRef.binary φ.v0 φ.v35 φ.v36 addi,
    TRef.ternary φ.v34 φ.v36 φ.v0 φ.v37 select,
    TRef.nullary φ.c_6 (constantI S_ 32 0#32),
    TRef.unary φ.c_6 φ.v38 (broadcastInDim S131072 ![] bcast_S_S131072),
    TRef.binary φ.call0.v1_1 φ.v38 φ.v39 (cmpi .slt),
    TRef.nullary φ.c_7 (constantI S_ 32 64#32),
    TRef.unary φ.c_7 φ.v40 (broadcastInDim S131072 ![] bcast_S_S131072),
    TRef.binary φ.call0.v1_1 φ.v40 φ.v41 addi,
    TRef.ternary φ.v39 φ.v41 φ.call0.v1_1 φ.v42 select,
    TRef.unary φ.v37 φ.v43 (broadcastInDim S131072x1 ![0] bcast_S131072_S131072x1_0),
    TRef.unary φ.v42 φ.v44 (broadcastInDim S131072x1 ![0] bcast_S131072_S131072x1_0),
    TRef.binary φ.v43 φ.v44 φ.v45 (fun a b => concatenate S131072x2 1 [⟨S131072x1, a⟩, ⟨S131072x1, b⟩] concatenates_S131072x1_S131072x1_S131072x2_d1),
    TRef.ternary a.f φ.v45 φ.v32 φ.v46 (fun x i u => Host.scatter scatter_S131072x64x1_S131072x2_S131072x1_1_01_01_1 (fun _ b => b) x i u),
    TRef.nullary φ.c_8 (constantI S_ 32 0#32),
    TRef.unary φ.c_8 φ.v47 (broadcastInDim S131072 ![] bcast_S_S131072),
    TRef.binary φ.v0 φ.v47 φ.v48 (cmpi .slt),
    TRef.nullary φ.c_9 (constantI S_ 32 131072#32),
    TRef.unary φ.c_9 φ.v49 (broadcastInDim S131072 ![] bcast_S_S131072),
    TRef.binary φ.v0 φ.v49 φ.v50 addi,
    TRef.ternary φ.v48 φ.v50 φ.v0 φ.v51 select,
    TRef.nullary φ.c_10 (constantI S_ 32 0#32),
    TRef.unary φ.c_10 φ.v52 (broadcastInDim S131072 ![] bcast_S_S131072),
    TRef.binary φ.call0.v1_1 φ.v52 φ.v53 (cmpi .slt),
    TRef.nullary φ.c_11 (constantI S_ 32 64#32),
    TRef.unary φ.c_11 φ.v54 (broadcastInDim S131072 ![] bcast_S_S131072),
    TRef.binary φ.call0.v1_1 φ.v54 φ.v55 addi,
    TRef.ternary φ.v53 φ.v55 φ.call0.v1_1 φ.v56 select,
    TRef.unary φ.v51 φ.v57 (broadcastInDim S131072x1 ![0] bcast_S131072_S131072x1_0),
    TRef.unary φ.v56 φ.v58 (broadcastInDim S131072x1 ![0] bcast_S131072_S131072x1_0),
    TRef.binary φ.v57 φ.v58 φ.v59 (fun a b => concatenate S131072x2 1 [⟨S131072x1, a⟩, ⟨S131072x1, b⟩] concatenates_S131072x1_S131072x1_S131072x2_d1),
    TRef.ternary a.h φ.v59 φ.v28 φ.v60 (fun x i u => Host.scatter scatter_S131072x64x1_S131072x2_S131072x1_1_01_01_1 (fun _ b => b) x i u) ]

/-- The references one round writes, in order. -/
abbrev stepRefs (φ : fn_step.Bufs) : List (Ref sig .tc) :=
  [ φ.v0.ref, φ.v1.ref, φ.cst.ref, φ.v2.ref, φ.v3.ref, φ.v4.ref, φ.v5.ref, φ.cst_0.ref,
    φ.v6.ref, φ.call0.v0.ref, φ.call0.cst.ref, φ.call0.c.ref, φ.call0.v1_0.ref, φ.call0.v1_1.ref, φ.v8.ref, φ.v9.ref,
    φ.v10.ref, φ.v11.ref, φ.v12.ref, φ.v13.ref, φ.c.ref, φ.v14.ref, φ.v15.ref, φ.c_1.ref,
    φ.v16.ref, φ.v17.ref, φ.v18.ref, φ.c_2.ref, φ.v19.ref, φ.v20.ref, φ.c_3.ref, φ.v21.ref,
    φ.v22.ref, φ.v23.ref, φ.v24.ref, φ.v25.ref, φ.v26.ref, φ.v27.ref, φ.v28.ref, φ.v29.ref,
    φ.v30.ref, φ.v31.ref, φ.v32.ref, φ.c_4.ref, φ.v33.ref, φ.v34.ref, φ.c_5.ref, φ.v35.ref,
    φ.v36.ref, φ.v37.ref, φ.c_6.ref, φ.v38.ref, φ.v39.ref, φ.c_7.ref, φ.v40.ref, φ.v41.ref,
    φ.v42.ref, φ.v43.ref, φ.v44.ref, φ.v45.ref, φ.v46.ref, φ.c_8.ref, φ.v47.ref, φ.v48.ref,
    φ.c_9.ref, φ.v49.ref, φ.v50.ref, φ.v51.ref, φ.c_10.ref, φ.v52.ref, φ.v53.ref, φ.c_11.ref,
    φ.v54.ref, φ.v55.ref, φ.v56.ref, φ.v57.ref, φ.v58.ref, φ.v59.ref, φ.v60.ref ]

set_option maxRecDepth 16384 in
set_option maxHeartbeats 4000000 in
/-- One round of the printed program is its list of operations. -/
theorem step_body_eq (a : Args) (φ : fn_step.Bufs) :
    fn_step.body (F := F) a.w a.f a.h a.l a.b φ = seq (stepOps a φ) := rfl

set_option maxRecDepth 16384 in
/-- Where one round's references are distinct, it writes each once. -/
theorem stepLine (a : Args) (φ : fn_step.Bufs) (h : (stepRefs φ).Nodup) : Line (stepOps (F := F) a φ) (stepRefs φ) := ⟨rfl, h⟩

/-- The operations before the first round: the tiled features, the tiled units, the weights with their complement, and the first row of `L` and of the biases. -/
abbrev preOps : List (HloOp τ sig (Elt F)) :=
  [ unary main_arg2 main_v0 (broadcastInDim S1x64x1 ![1, 2] bcast_S64x1_S1x64x1_1_2 : (⟨S64x1, .f32⟩ : BufTy).Contents (Elt F) → (⟨S1x64x1, .f32⟩ : BufTy).Contents (Elt F)),
    reshape main_v0 main_v1 (rfl : (.f32 : EltTy) = .f32) shapeCasts_S1x64x1_S1x1x1x64x1x1,
    unary main_v1 main_v2 (broadcastInDim S131072x1x1x64x1x1 ![0, 1, 2, 3, 4, 5] bcast_S1x1x1x64x1x1_S131072x1x1x64x1x1_0_1_2_3_4_5 : (⟨S1x1x1x64x1x1, .f32⟩ : BufTy).Contents (Elt F) → (⟨S131072x1x1x64x1x1, .f32⟩ : BufTy).Contents (Elt F)),
    reshape main_v2 main_v3 (rfl : (.f32 : EltTy) = .f32) shapeCasts_S131072x1x1x64x1x1_S131072x64x1,
    unary main_arg1 main_v4 (broadcastInDim S1x64x1 ![1, 2] bcast_S64x1_S1x64x1_1_2 : (⟨S64x1, .f32⟩ : BufTy).Contents (Elt F) → (⟨S1x64x1, .f32⟩ : BufTy).Contents (Elt F)),
    reshape main_v4 main_v5 (rfl : (.f32 : EltTy) = .f32) shapeCasts_S1x64x1_S1x1x1x64x1x1,
    unary main_v5 main_v6 (broadcastInDim S131072x1x1x64x1x1 ![0, 1, 2, 3, 4, 5] bcast_S1x1x1x64x1x1_S131072x1x1x64x1x1_0_1_2_3_4_5 : (⟨S1x1x1x64x1x1, .f32⟩ : BufTy).Contents (Elt F) → (⟨S131072x1x1x64x1x1, .f32⟩ : BufTy).Contents (Elt F)),
    reshape main_v6 main_v7 (rfl : (.f32 : EltTy) = .f32) shapeCasts_S131072x1x1x64x1x1_S131072x64x1,
    nullary main_cst (constant S_ .f32 0x00000000#32),
    binary main_arg0 main_cst main_v8 ((fun x v => Host.reduceAdd x v reducesTo_S131072x63_S131072_d1 h_S_) : (⟨S131072x63, .f32⟩ : BufTy).Contents (Elt F) → (⟨S_, .f32⟩ : BufTy).Contents (Elt F) → (⟨S131072, .f32⟩ : BufTy).Contents (Elt F)),
    unary main_v8 main_v9 (broadcastInDim S131072x1 ![0] bcast_S131072_S131072x1_0 : (⟨S131072, .f32⟩ : BufTy).Contents (Elt F) → (⟨S131072x1, .f32⟩ : BufTy).Contents (Elt F)),
    nullary main_cst_0 (constant S_ .f32 0x3F800000#32),
    unary main_cst_0 main_v10 (broadcastInDim S131072x1 ![] bcast_S_S131072x1 : (⟨S_, .f32⟩ : BufTy).Contents (Elt F) → (⟨S131072x1, .f32⟩ : BufTy).Contents (Elt F)),
    binary main_v10 main_v9 main_v11 (subf : (⟨S131072x1, .f32⟩ : BufTy).Contents (Elt F) → (⟨S131072x1, .f32⟩ : BufTy).Contents (Elt F) → (⟨S131072x1, .f32⟩ : BufTy).Contents (Elt F)),
    binary main_v11 main_arg0 main_v12 ((fun a b => concatenate S131072x64 1 [⟨S131072x1, a⟩, ⟨S131072x63, b⟩] concatenates_S131072x1_S131072x63_S131072x64_d1) : (⟨S131072x1, .f32⟩ : BufTy).Contents (Elt F) → (⟨S131072x63, .f32⟩ : BufTy).Contents (Elt F) → (⟨S131072x64, .f32⟩ : BufTy).Contents (Elt F)),
    unary main_arg4 main_v13 ((extractStridedSlice S1x64 ![0, 0] · slices_S6x64_S1x64_0_0) : (⟨S6x64, .f32⟩ : BufTy).Contents (Elt F) → (⟨S1x64, .f32⟩ : BufTy).Contents (Elt F)),
    reshape main_v13 main_v14 (rfl : (.f32 : EltTy) = .f32) shapeCasts_S1x64_S64,
    unary main_arg3 main_v15 ((extractStridedSlice S1x1 ![0, 0] · slices_S6x1_S1x1_0_0) : (⟨S6x1, .f32⟩ : BufTy).Contents (Elt F) → (⟨S1x1, .f32⟩ : BufTy).Contents (Elt F)),
    reshape main_v15 main_v16 (rfl : (.f32 : EltTy) = .f32) shapeCasts_S1x1_S1 ]

/-- The references `preOps` writes, in order. -/
abbrev preRefs : List (Ref sig .tc) :=
  [main_v0, main_v1, main_v2, main_v3, main_v4, main_v5, main_v6, main_v7, main_cst, main_v8, main_v9, main_cst_0, main_v10, main_v11, main_v12, main_v13, main_v14, main_v15, main_v16]

/-- Row 1 of `L` and of the biases. -/
abbrev sliceOps1 : List (HloOp τ sig (Elt F)) :=
  [ unary main_arg4 main_v18 ((extractStridedSlice S1x64 ![1, 0] · slices_S6x64_S1x64_1_0) : (⟨S6x64, .f32⟩ : BufTy).Contents (Elt F) → (⟨S1x64, .f32⟩ : BufTy).Contents (Elt F)),
    reshape main_v18 main_v19 (rfl : (.f32 : EltTy) = .f32) shapeCasts_S1x64_S64,
    unary main_arg3 main_v20 ((extractStridedSlice S1x1 ![1, 0] · slices_S6x1_S1x1_1_0) : (⟨S6x1, .f32⟩ : BufTy).Contents (Elt F) → (⟨S1x1, .f32⟩ : BufTy).Contents (Elt F)),
    reshape main_v20 main_v21 (rfl : (.f32 : EltTy) = .f32) shapeCasts_S1x1_S1 ]

/-- The references `sliceOps1` writes, in order. -/
abbrev sliceRefs1 : List (Ref sig .tc) :=
  [main_v18, main_v19, main_v20, main_v21]

/-- Row 2 of `L` and of the biases. -/
abbrev sliceOps2 : List (HloOp τ sig (Elt F)) :=
  [ unary main_arg4 main_v23 ((extractStridedSlice S1x64 ![2, 0] · slices_S6x64_S1x64_2_0) : (⟨S6x64, .f32⟩ : BufTy).Contents (Elt F) → (⟨S1x64, .f32⟩ : BufTy).Contents (Elt F)),
    reshape main_v23 main_v24 (rfl : (.f32 : EltTy) = .f32) shapeCasts_S1x64_S64,
    unary main_arg3 main_v25 ((extractStridedSlice S1x1 ![2, 0] · slices_S6x1_S1x1_2_0) : (⟨S6x1, .f32⟩ : BufTy).Contents (Elt F) → (⟨S1x1, .f32⟩ : BufTy).Contents (Elt F)),
    reshape main_v25 main_v26 (rfl : (.f32 : EltTy) = .f32) shapeCasts_S1x1_S1 ]

/-- The references `sliceOps2` writes, in order. -/
abbrev sliceRefs2 : List (Ref sig .tc) :=
  [main_v23, main_v24, main_v25, main_v26]

/-- Row 3 of `L` and of the biases. -/
abbrev sliceOps3 : List (HloOp τ sig (Elt F)) :=
  [ unary main_arg4 main_v28 ((extractStridedSlice S1x64 ![3, 0] · slices_S6x64_S1x64_3_0) : (⟨S6x64, .f32⟩ : BufTy).Contents (Elt F) → (⟨S1x64, .f32⟩ : BufTy).Contents (Elt F)),
    reshape main_v28 main_v29 (rfl : (.f32 : EltTy) = .f32) shapeCasts_S1x64_S64,
    unary main_arg3 main_v30 ((extractStridedSlice S1x1 ![3, 0] · slices_S6x1_S1x1_3_0) : (⟨S6x1, .f32⟩ : BufTy).Contents (Elt F) → (⟨S1x1, .f32⟩ : BufTy).Contents (Elt F)),
    reshape main_v30 main_v31 (rfl : (.f32 : EltTy) = .f32) shapeCasts_S1x1_S1 ]

/-- The references `sliceOps3` writes, in order. -/
abbrev sliceRefs3 : List (Ref sig .tc) :=
  [main_v28, main_v29, main_v30, main_v31]

/-- Row 4 of `L` and of the biases. -/
abbrev sliceOps4 : List (HloOp τ sig (Elt F)) :=
  [ unary main_arg4 main_v33 ((extractStridedSlice S1x64 ![4, 0] · slices_S6x64_S1x64_4_0) : (⟨S6x64, .f32⟩ : BufTy).Contents (Elt F) → (⟨S1x64, .f32⟩ : BufTy).Contents (Elt F)),
    reshape main_v33 main_v34 (rfl : (.f32 : EltTy) = .f32) shapeCasts_S1x64_S64,
    unary main_arg3 main_v35 ((extractStridedSlice S1x1 ![4, 0] · slices_S6x1_S1x1_4_0) : (⟨S6x1, .f32⟩ : BufTy).Contents (Elt F) → (⟨S1x1, .f32⟩ : BufTy).Contents (Elt F)),
    reshape main_v35 main_v36 (rfl : (.f32 : EltTy) = .f32) shapeCasts_S1x1_S1 ]

/-- The references `sliceOps4` writes, in order. -/
abbrev sliceRefs4 : List (Ref sig .tc) :=
  [main_v33, main_v34, main_v35, main_v36]

/-- Row 5 of `L` and of the biases. -/
abbrev sliceOps5 : List (HloOp τ sig (Elt F)) :=
  [ unary main_arg4 main_v38 ((extractStridedSlice S1x64 ![5, 0] · slices_S6x64_S1x64_5_0) : (⟨S6x64, .f32⟩ : BufTy).Contents (Elt F) → (⟨S1x64, .f32⟩ : BufTy).Contents (Elt F)),
    reshape main_v38 main_v39 (rfl : (.f32 : EltTy) = .f32) shapeCasts_S1x64_S64,
    unary main_arg3 main_v40 ((extractStridedSlice S1x1 ![5, 0] · slices_S6x1_S1x1_5_0) : (⟨S6x1, .f32⟩ : BufTy).Contents (Elt F) → (⟨S1x1, .f32⟩ : BufTy).Contents (Elt F)),
    reshape main_v40 main_v41 (rfl : (.f32 : EltTy) = .f32) shapeCasts_S1x1_S1 ]

/-- The references `sliceOps5` writes, in order. -/
abbrev sliceRefs5 : List (Ref sig .tc) :=
  [main_v38, main_v39, main_v40, main_v41]

/-- The operations after the last round: the product of the weights and the features. -/
abbrev postOps : List (HloOp τ sig (Elt F)) :=
  [ unary main_v42_0 main_v43 (broadcastInDim S131072x1x64 ![0, 2] bcast_S131072x64_S131072x1x64_0_2 : (⟨S131072x64, .f32⟩ : BufTy).Contents (Elt F) → (⟨S131072x1x64, .f32⟩ : BufTy).Contents (Elt F)),
    binary main_v43 main_v42_1 main_v44 ((fun l r => Host.dotGeneral dot_S131072x1x64_S131072x64x1_S131072x1x1_2_1_1_2_0_0 none l r) : (⟨S131072x1x64, .f32⟩ : BufTy).Contents (Elt F) → (⟨S131072x64x1, .f32⟩ : BufTy).Contents (Elt F) → (⟨S131072x1x1, .f32⟩ : BufTy).Contents (Elt F)) ]

/-- The references `postOps` writes, in order. -/
abbrev postRefs : List (Ref sig .tc) :=
  [main_v43, main_v44]

/-- Round 0's operands. -/
abbrev args0 : Args := ⟨.of main_v12, .of main_v3, .of main_v7, .of main_v14, .of main_v16⟩

/-- Round 1's operands. -/
abbrev args1 : Args := ⟨.of main_v17_0, .of main_v17_1, .of main_v17_2, .of main_v19, .of main_v21⟩

/-- Round 2's operands. -/
abbrev args2 : Args := ⟨.of main_v22_0, .of main_v22_1, .of main_v22_2, .of main_v24, .of main_v26⟩

/-- Round 3's operands. -/
abbrev args3 : Args := ⟨.of main_v27_0, .of main_v27_1, .of main_v27_2, .of main_v29, .of main_v31⟩

/-- Round 4's operands. -/
abbrev args4 : Args := ⟨.of main_v32_0, .of main_v32_1, .of main_v32_2, .of main_v34, .of main_v36⟩

/-- Round 5's operands. -/
abbrev args5 : Args := ⟨.of main_v37_0, .of main_v37_1, .of main_v37_2, .of main_v39, .of main_v41⟩

/-- The whole program's operations. -/
def ops : List (HloOp τ sig (Elt F)) :=
  preOps ++ (stepOps args0 main_call0 ++ (sliceOps1 ++ (stepOps args1 main_call1 ++ (sliceOps2 ++ (stepOps args2 main_call2 ++ (sliceOps3 ++ (stepOps args3 main_call3 ++ (sliceOps4 ++ (stepOps args4 main_call4 ++ (sliceOps5 ++ (stepOps args5 main_call5 ++ postOps)))))))))))

set_option maxRecDepth 16384 in
set_option maxHeartbeats 4000000 in
/-- The printed program is its list of operations. -/
theorem main_eq (c : Dev nD) : main (F := F) c = seq ops := by
  simp only [ops, seq_append, ← step_body_eq]
  rfl

set_option maxRecDepth 16384 in
/-- One round touches buffers of the core only. -/
theorem step_sub (a : Args) (φ : fn_step.Bufs) :
    (stepOps (F := F) a φ).Forall fun op => op.bufs ⊆ tcRefs τ sig :=
  ⟨nullary_bufs_sub .., unary_bufs_sub .., nullary_bufs_sub .., unary_bufs_sub .., binary_bufs_sub ..,
    unary_bufs_sub .., binary_bufs_sub .., nullary_bufs_sub .., binary_bufs_sub .., nullary_bufs_sub ..,
    nullary_bufs_sub .., nullary_bufs_sub .., quaternary_bufs_sub .., quaternary_bufs_sub .., unary_bufs_sub ..,
    unary_bufs_sub .., unary_bufs_sub .., unary_bufs_sub .., binary_bufs_sub .., binary_bufs_sub ..,
    nullary_bufs_sub .., unary_bufs_sub .., binary_bufs_sub .., nullary_bufs_sub .., unary_bufs_sub ..,
    binary_bufs_sub .., ternary_bufs_sub .., nullary_bufs_sub .., unary_bufs_sub .., binary_bufs_sub ..,
    nullary_bufs_sub .., unary_bufs_sub .., binary_bufs_sub .., ternary_bufs_sub .., unary_bufs_sub ..,
    unary_bufs_sub .., binary_bufs_sub .., ternary_bufs_sub .., binary_bufs_sub .., binary_bufs_sub ..,
    unary_bufs_sub .., unary_bufs_sub .., binary_bufs_sub .., nullary_bufs_sub .., unary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub ..,
    binary_bufs_sub .., ternary_bufs_sub .., unary_bufs_sub .., unary_bufs_sub .., binary_bufs_sub ..,
    ternary_bufs_sub .., nullary_bufs_sub .., unary_bufs_sub .., binary_bufs_sub .., nullary_bufs_sub ..,
    unary_bufs_sub .., binary_bufs_sub .., ternary_bufs_sub .., nullary_bufs_sub .., unary_bufs_sub ..,
    binary_bufs_sub .., nullary_bufs_sub .., unary_bufs_sub .., binary_bufs_sub .., ternary_bufs_sub ..,
    unary_bufs_sub .., unary_bufs_sub .., binary_bufs_sub .., ternary_bufs_sub ..⟩

set_option maxRecDepth 16384 in
/-- One round determines every result. -/
theorem step_fresh (a : Args) (φ : fn_step.Bufs) : (stepOps (F := F) a φ).Forall fun op => op.fresh = ∅ :=
  forall_fresh_of_map rfl

/-- `preOps` touches buffers of the core only. -/
theorem pre_sub : (preOps (F := F)).Forall fun op => op.bufs ⊆ tcRefs τ sig :=
  ⟨unary_bufs_sub .., reshape_bufs_sub .., unary_bufs_sub .., reshape_bufs_sub .., unary_bufs_sub ..,
    reshape_bufs_sub .., unary_bufs_sub .., reshape_bufs_sub .., nullary_bufs_sub .., binary_bufs_sub ..,
    unary_bufs_sub .., nullary_bufs_sub .., unary_bufs_sub .., binary_bufs_sub .., binary_bufs_sub ..,
    unary_bufs_sub .., reshape_bufs_sub .., unary_bufs_sub .., reshape_bufs_sub ..⟩

/-- `preOps` writes each of its references once. -/
theorem preLine : Line (preOps (F := F)) preRefs := ⟨rfl, by decide⟩

/-- `sliceOps1` touches buffers of the core only. -/
theorem slice1_sub : (sliceOps1 (F := F)).Forall fun op => op.bufs ⊆ tcRefs τ sig :=
  ⟨unary_bufs_sub .., reshape_bufs_sub .., unary_bufs_sub .., reshape_bufs_sub ..⟩

/-- `sliceOps1` writes each of its references once. -/
theorem slice1Line : Line (sliceOps1 (F := F)) sliceRefs1 := ⟨rfl, by decide⟩

/-- `sliceOps2` touches buffers of the core only. -/
theorem slice2_sub : (sliceOps2 (F := F)).Forall fun op => op.bufs ⊆ tcRefs τ sig :=
  ⟨unary_bufs_sub .., reshape_bufs_sub .., unary_bufs_sub .., reshape_bufs_sub ..⟩

/-- `sliceOps2` writes each of its references once. -/
theorem slice2Line : Line (sliceOps2 (F := F)) sliceRefs2 := ⟨rfl, by decide⟩

/-- `sliceOps3` touches buffers of the core only. -/
theorem slice3_sub : (sliceOps3 (F := F)).Forall fun op => op.bufs ⊆ tcRefs τ sig :=
  ⟨unary_bufs_sub .., reshape_bufs_sub .., unary_bufs_sub .., reshape_bufs_sub ..⟩

/-- `sliceOps3` writes each of its references once. -/
theorem slice3Line : Line (sliceOps3 (F := F)) sliceRefs3 := ⟨rfl, by decide⟩

/-- `sliceOps4` touches buffers of the core only. -/
theorem slice4_sub : (sliceOps4 (F := F)).Forall fun op => op.bufs ⊆ tcRefs τ sig :=
  ⟨unary_bufs_sub .., reshape_bufs_sub .., unary_bufs_sub .., reshape_bufs_sub ..⟩

/-- `sliceOps4` writes each of its references once. -/
theorem slice4Line : Line (sliceOps4 (F := F)) sliceRefs4 := ⟨rfl, by decide⟩

/-- `sliceOps5` touches buffers of the core only. -/
theorem slice5_sub : (sliceOps5 (F := F)).Forall fun op => op.bufs ⊆ tcRefs τ sig :=
  ⟨unary_bufs_sub .., reshape_bufs_sub .., unary_bufs_sub .., reshape_bufs_sub ..⟩

/-- `sliceOps5` writes each of its references once. -/
theorem slice5Line : Line (sliceOps5 (F := F)) sliceRefs5 := ⟨rfl, by decide⟩

/-- `postOps` touches buffers of the core only. -/
theorem post_sub : (postOps (F := F)).Forall fun op => op.bufs ⊆ tcRefs τ sig :=
  ⟨unary_bufs_sub .., binary_bufs_sub ..⟩

/-- `postOps` writes each of its references once. -/
theorem postLine : Line (postOps (F := F)) postRefs := ⟨rfl, by decide⟩

/-- The whole program touches buffers of the core only. -/
theorem ops_sub : (ops (F := F)).Forall fun op => op.bufs ⊆ tcRefs τ sig := by
  simp only [ops, List.forall_append]
  exact ⟨pre_sub, step_sub _ _, slice1_sub, step_sub _ _, slice2_sub, step_sub _ _, slice3_sub, step_sub _ _, slice4_sub, step_sub _ _, slice5_sub, step_sub _ _, post_sub⟩

/-- The whole program determines every result. -/
theorem ops_fresh : (ops (F := F)).Forall fun op => op.fresh = ∅ := by
  simp only [ops, List.forall_append]
  exact ⟨forall_fresh_of_map rfl, step_fresh _ _, forall_fresh_of_map rfl, step_fresh _ _, forall_fresh_of_map rfl, step_fresh _ _, forall_fresh_of_map rfl, step_fresh _ _, forall_fresh_of_map rfl, step_fresh _ _, forall_fresh_of_map rfl, step_fresh _ _, forall_fresh_of_map rfl⟩

/-- Nothing of the program is scoped. -/
theorem scopedRefs_eq : (Finset.univ.filter fun b : Ref sig .tc => b.isScoped) = ∅ := by decide

/-- No counter of the program is scoped. -/
theorem scopedSems_eq : (Finset.univ.filter fun sm : SemLoc sig => sm.isScoped .tc) = ∅ := by decide

/-- Every execution ends with each buffer at what the operations leave. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ
    fun _ => List.forall_iff_forall_mem.mp ops_fresh

/-- A line keeps the contents of a reference it does not write. -/
theorem kept {ops : List (HloOp τ sig (Elt F))} {W : List (Ref sig .tc)} (h : Line ops W)
    (V : Valuation τ sig (Elt F)) (r : Ref sig .tc) (hr : r ∉ W) :
    after ops V (Proc.devRef .tc r) = V (Proc.devRef .tc r) :=
  after_of_writes_sub ops V (forall_writes_sub_of_map h.writes) hr

/-- Each call's references are distinct. -/
theorem callLine0 : Line (stepOps (F := F) args0 main_call0) (stepRefs main_call0) := stepLine _ _ (by decide)
/-- Each call's references are distinct. -/
theorem callLine1 : Line (stepOps (F := F) args1 main_call1) (stepRefs main_call1) := stepLine _ _ (by decide)
/-- Each call's references are distinct. -/
theorem callLine2 : Line (stepOps (F := F) args2 main_call2) (stepRefs main_call2) := stepLine _ _ (by decide)
/-- Each call's references are distinct. -/
theorem callLine3 : Line (stepOps (F := F) args3 main_call3) (stepRefs main_call3) := stepLine _ _ (by decide)
/-- Each call's references are distinct. -/
theorem callLine4 : Line (stepOps (F := F) args4 main_call4) (stepRefs main_call4) := stepLine _ _ (by decide)
/-- Each call's references are distinct. -/
theorem callLine5 : Line (stepOps (F := F) args5 main_call5) (stepRefs main_call5) := stepLine _ _ (by decide)

/-- The whole program, segment after segment. -/
theorem after_ops (V : Valuation τ sig (Elt F)) :
    after ops V = after postOps (after (stepOps args5 main_call5) (after sliceOps5 (after (stepOps args4 main_call4) (after sliceOps4 (after (stepOps args3 main_call3) (after sliceOps3 (after (stepOps args2 main_call2) (after sliceOps2 (after (stepOps args1 main_call1) (after sliceOps1 (after (stepOps args0 main_call0) (after preOps V)))))))))))) := by
  unfold ops
  rw [after_append, after_append, after_append, after_append, after_append, after_append, after_append, after_append, after_append, after_append, after_append, after_append]

/-- The whole program writes none of its arguments. -/
theorem arg_kept (V : Valuation τ sig (Elt F)) (r : Ref sig .tc)
    (hr : r ∈ [main_arg0, main_arg1, main_arg2, main_arg3, main_arg4]) :
    after ops V (Proc.devRef .tc r) = V (Proc.devRef .tc r) := by
  rw [after_ops]
  simp only [List.mem_cons, List.not_mem_nil, or_false] at hr
  rcases hr with rfl | rfl | rfl | rfl | rfl <;>
    rw [kept postLine _ _ (by decide), kept callLine5 _ _ (by decide), kept slice5Line _ _ (by decide),
      kept callLine4 _ _ (by decide), kept slice4Line _ _ (by decide),
      kept callLine3 _ _ (by decide), kept slice3Line _ _ (by decide),
      kept callLine2 _ _ (by decide), kept slice2Line _ _ (by decide),
      kept callLine1 _ _ (by decide), kept slice1Line _ _ (by decide),
      kept callLine0 _ _ (by decide), kept preLine _ _ (by decide)]

/-- Every execution leaves the arguments as they were and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c =>
    ⟨(h c _).trans (arg_kept _ _ (by decide)), (h c _).trans (arg_kept _ _ (by decide)),
      (h c _).trans (arg_kept _ _ (by decide)), (h c _).trans (arg_kept _ _ (by decide)),
      (h c _).trans (arg_kept _ _ (by decide))⟩, sem_eq_zero_of_no_sems (by decide) r.2⟩) (run m ρ)

end Cert.RefRun

end
-- ==== Proof.Spec.lean ====
/- The mathematics both programs compute, row by row of the batch, over the extended reals: six rounds of a state of
   64 weights, 64 features and 64 units. -/
module

public import Idealize.ShloMosaic.PureOps.Ideal
public import Mathlib.Order.Fin.Basic

@[expose] public section

noncomputable section

namespace Cert.Spec

open Idealize.ShloMosaic

/-- `i` is the first position at which `g` is least. -/
def IsFirstMin (g : Fin 64 → EReal) (i : Fin 64) : Prop := (∀ k, g i ≤ g k) ∧ ∀ k, g k = g i → i ≤ k

/-- Every family has a first position at which it is least. -/
theorem exists_firstMin (g : Fin 64 → EReal) : ∃ i, IsFirstMin g i := by
  classical
  obtain ⟨a, -, ha⟩ := Finset.exists_min_image Finset.univ g Finset.univ_nonempty
  have hne : (Finset.univ.filter fun k => g k = g a).Nonempty := ⟨a, by simp⟩
  have hm := Finset.min'_mem _ hne
  rw [Finset.mem_filter] at hm
  refine ⟨Finset.min' _ hne, fun k => ?_, fun k hk => Finset.min'_le _ k ?_⟩
  · rw [hm.2]; exact ha k (Finset.mem_univ k)
  · rw [Finset.mem_filter]; exact ⟨Finset.mem_univ k, hk.trans hm.2⟩

/-- There is only one. -/
theorem IsFirstMin.unique {g : Fin 64 → EReal} {i j : Fin 64} (hi : IsFirstMin g i) (hj : IsFirstMin g j) : i = j :=
  le_antisymm (hi.2 j (le_antisymm (hj.1 i) (hi.1 j))) (hj.2 i (le_antisymm (hi.1 j) (hj.1 i)))

/-- The first position at which `g` is least. -/
def firstMin (g : Fin 64 → EReal) : Fin 64 := (exists_firstMin g).choose

theorem firstMin_spec (g : Fin 64 → EReal) : IsFirstMin g (firstMin g) := (exists_firstMin g).choose_spec

/-- A position that is first among the least ones is `firstMin`. -/
theorem eq_firstMin {g : Fin 64 → EReal} {i : Fin 64} (h : IsFirstMin g i) : i = firstMin g := h.unique (firstMin_spec g)

/-- The minimum of all values, from the greatest value on, is the value at the first least position. -/
theorem fold_min (g : Fin 64 → EReal) : Finset.univ.fold min (⊤ : EReal) g = g (firstMin g) := by
  refine le_antisymm ?_ ?_
  · exact (Finset.fold_min_le _).mpr (.inr ⟨_, Finset.mem_univ _, le_rfl⟩)
  · exact (Finset.le_fold_min _).mpr ⟨le_top, fun k _ => (firstMin_spec g).1 k⟩

/-- The minimum over the positions of least value, the others counted as 64, is the first of them. -/
theorem fold_min_index (g : Fin 64 → EReal) (m : EReal) (hm : m = g (firstMin g)) :
    Finset.univ.fold min (⊤ : EReal) (fun k : Fin 64 => if g k = m then ((k.val : ℝ) : EReal) else ((64 : ℝ) : EReal))
      = (((firstMin g).val : ℝ) : EReal) := by
  subst hm
  have hle : ∀ a b : ℕ, a ≤ b → ((a : ℝ) : EReal) ≤ ((b : ℝ) : EReal) := fun a b h =>
    EReal.coe_le_coe_iff.mpr (Nat.cast_le.mpr h)
  refine le_antisymm ?_ ?_
  · exact (Finset.fold_min_le _).mpr (.inr ⟨firstMin g, Finset.mem_univ _, by rw [if_pos rfl]⟩)
  · refine (Finset.le_fold_min _).mpr ⟨le_top, fun k _ => ?_⟩
    split_ifs with h
    · exact hle _ _ ((firstMin_spec g).2 k h)
    · exact hle _ 64 (firstMin g).isLt.le

/-- The number added to every divisor. -/
def eps : EReal := Ideal.ofBits .f32 0x1E3CE508#32

/-- One row's state: the weights, the features and the units. -/
structure St where
  w : Fin 64 → EReal
  f : Fin 64 → EReal
  h : Fin 64 → EReal

/-- The weights over the row `l`. -/
def ratio (l w : Fin 64 → EReal) (j : Fin 64) : EReal := Ideal.div (w j) (l j + eps)

/-- The position a round replaces. -/
def pick (l w : Fin 64 → EReal) : Fin 64 := firstMin (ratio l w)

/-- The weight a round puts there. -/
def least (l w : Fin 64 → EReal) : EReal := ratio l w (pick l w)

/-- The unit a round makes. -/
def unit (l h : Fin 64 → EReal) : EReal := ∑ v, l v * h v

/-- The feature a round makes. -/
def feat (l : Fin 64 → EReal) (b : EReal) (f : Fin 64 → EReal) : EReal := (∑ v, l v * f v) + b

/-- The weights after a round. -/
def wNext (l w : Fin 64 → EReal) (j : Fin 64) : EReal := if j = pick l w then least l w else w j - least l w * l j

/-- `x` with the value `v` at the position a round replaces. -/
def put (l w : Fin 64 → EReal) (v : EReal) (x : Fin 64 → EReal) (j : Fin 64) : EReal := if j = pick l w then v else x j

/-- One round. -/
def St.next (s : St) (l : Fin 64 → EReal) (b : EReal) : St :=
  ⟨wNext l s.w, put l s.w (feat l b s.f) s.f, put l s.w (unit l s.h) s.h⟩

/-- The weights a row starts from: one less the sum of its inputs, then the inputs. -/
def wStart (x : Fin 63 → EReal) : Fin 64 → EReal := Fin.cons (1 - ∑ k, x k) x

/-- The state after `i` rounds. -/
def state (s : St) (l : ℕ → Fin 64 → EReal) (b : ℕ → EReal) : ℕ → St
  | 0 => s
  | i + 1 => (state s l b i).next (l i) (b i)

/-- What a row's rounds return: the weights times the features. -/
def result (s : St) : EReal := ∑ v, s.w v * s.f v

end Cert.Spec

end
-- ==== Proof.RefOps.lean ====
/- The reference's operations that are no plain entrywise reading: the arg-min over a row, and the writes at one column
   of every row. -/
module

public import proofs.«01_k».proof.Proof.Gen.ReferenceIdeal
public import proofs.«01_k».proof.Proof.Spec
public import Idealize.ShloMosaic.Lib.Pointwise
public import Idealize.ShloMosaic.Lib.Pointwise.IndexBridge
public import Idealize.ShloMosaic.Lib.Routing.OpsSet
public import Idealize.ShloMosaic.Lib.Routing.OpsPair

@[expose] public section

set_option maxRecDepth 16384

noncomputable section

namespace Cert.RefOps

open Cert.ReferenceIdeal Cert.ReferenceIdeal.Gen Cert.Spec
open Idealize.ShloMosaic

/-- Where the arg-min's body takes a pair from. -/
theorem argmin_body (a b : Ideal .f32 × BitVec 32) :
    reducer_argmin_f32_i32 (F := Ideal) a b = if a.1 < b.1 ∨ (a.1 = b.1 ∧ a.2.toInt < b.2.toInt) then a else b := by
  obtain ⟨a1, a2⟩ := a
  obtain ⟨b1, b2⟩ := b
  have hs : (a2.slt b2) = decide (a2.toInt < b2.toInt) := rfl
  simp only [reducer_argmin_f32_i32, Ideal.cmpf_def, Ideal.cmp, IntOp.cmpi, IntOp.ori, IntOp.andi, Scalar.select, hs]
  by_cases h1 : a1 < b1
  · have ho : ∀ b : Bool, (1#1 ||| BitVec.ofBool b) = 1#1 := by decide
    simp [h1, ho]
  · by_cases h2 : a1 = b1
    · subst h2
      by_cases h3 : a2.toInt < b2.toInt <;> simp [h3]
    · simp [h1, h2]

/-- The fold of that body over a list of pairs: its result is one of the pairs, its value is least, and its position is
    first among the pairs of that value. -/
theorem foldl_argmin (L : List (Ideal .f32 × BitVec 32)) (z : Ideal .f32 × BitVec 32) :
    (L.foldl (reducer_argmin_f32_i32 (F := Ideal)) z) ∈ z :: L
      ∧ ∀ q ∈ z :: L, (L.foldl (reducer_argmin_f32_i32 (F := Ideal)) z).1 ≤ q.1
        ∧ (q.1 = (L.foldl (reducer_argmin_f32_i32 (F := Ideal)) z).1 →
            (L.foldl (reducer_argmin_f32_i32 (F := Ideal)) z).2.toInt ≤ q.2.toInt) := by
  induction L generalizing z with
  | nil => simp
  | cons b L ih =>
    have hz : ∃ y, y = reducer_argmin_f32_i32 (F := Ideal) z b ∧ (y = z ∨ y = b) ∧ (y.1 ≤ z.1 ∧ (z.1 = y.1 → y.2.toInt ≤ z.2.toInt))
        ∧ (y.1 ≤ b.1 ∧ (b.1 = y.1 → y.2.toInt ≤ b.2.toInt)) := by
      refine ⟨_, rfl, ?_⟩
      rw [argmin_body]
      split_ifs with h
      · refine ⟨.inl rfl, ⟨le_rfl, fun _ => le_rfl⟩, ?_⟩
        rcases h with h | h
        · exact ⟨h.le, fun e => absurd e h.ne'⟩
        · exact ⟨h.1.le, fun _ => h.2.le⟩
      · rw [not_or, not_and] at h
        refine ⟨.inr rfl, ⟨not_lt.mp h.1, fun e => not_lt.mp (h.2 e)⟩, ⟨le_rfl, fun _ => le_rfl⟩⟩
    obtain ⟨y, hy, hm, h1, h2⟩ := hz
    rw [List.foldl_cons, ← hy]
    obtain ⟨hmem, hle⟩ := ih y
    have key : ∀ q : Ideal .f32 × BitVec 32, (y.1 ≤ q.1 ∧ (q.1 = y.1 → y.2.toInt ≤ q.2.toInt)) →
        (L.foldl (reducer_argmin_f32_i32 (F := Ideal)) y).1 ≤ q.1
          ∧ (q.1 = (L.foldl (reducer_argmin_f32_i32 (F := Ideal)) y).1 →
              (L.foldl (reducer_argmin_f32_i32 (F := Ideal)) y).2.toInt ≤ q.2.toInt) := fun q hq => by
      have hy' := hle y List.mem_cons_self
      refine ⟨hy'.1.trans hq.1, fun e => ?_⟩
      have e1 : y.1 = (L.foldl (reducer_argmin_f32_i32 (F := Ideal)) y).1 := le_antisymm (hq.1.trans e.le) hy'.1
      exact (hy'.2 e1).trans (hq.2 (e.trans e1.symm))
    refine ⟨?_, fun q hq => ?_⟩
    · rcases List.mem_cons.mp hmem with h | h
      · rw [h]
        rcases hm with h | h <;> simp [h]
      · exact List.mem_cons_of_mem _ (List.mem_cons_of_mem _ h)
    · rcases List.mem_cons.mp hq with rfl | hq
      · exact key _ h1
      · rcases List.mem_cons.mp hq with rfl | hq
        · exact key _ h2
        · exact hle q (List.mem_cons_of_mem _ hq)

/-- Dropping the column of an index of the rows-by-columns shape leaves its row. -/
theorem drop_col (p : Fin 131072) (k : Fin 64) : reducesTo_S131072x64_S131072_d1.drop (ix2 p k) = ix1 p := by
  funext a
  match a with
  | ⟨0, _⟩ => rfl

/-- The infinity the minima start from. -/
theorem inf_eq : Ideal.ofBits .f32 0x7F800000#32 = (⊤ : EReal) := by
  simp [Ideal.ofBits, Ideal.ieee]

/-- The reference's arg-min over a row is the first position at which the row is least. -/
theorem argmin_row (x : FVec Ideal S131072x64 .f32) (p : Fin 131072) :
    (Host.argReduce (reducer_argmin_f32_i32 (F := Ideal)) x (iotaInDim S131072x64 32 1) (constant S_ .f32 0x7F800000#32)
      (constantI S_ 32 0#32) reducesTo_S131072x64_S131072_d1 h_S_ (ix1 p)).2 = BitVec.ofNat 32 (firstMin fun k => x (ix2 p k)).val := by
  rw [Ideal.argReduce_eq_reduce2, Host.reduce2_eq_foldl_fiber]
  set L := Host.argReduceFiber x (iotaInDim S131072x64 32 1) reducesTo_S131072x64_S131072_d1 (ix1 p) with hL
  have hmem : ∀ q, q ∈ L ↔ ∃ k : Fin 64, q = (x (ix2 p k), BitVec.ofNat 32 k.val) := fun q => by
    rw [hL, Host.argReduceFiber, List.mem_map]
    constructor
    · rintro ⟨n, hn, rfl⟩
      have hd := of_decide_eq_true (List.mem_filter.1 hn).2
      generalize S131072x64.rowMajor.symm n = j at hd ⊢
      obtain ⟨a, k, rfl⟩ : ∃ (a : Fin 131072) (k : Fin 64), j = ix2 a k := ⟨j 0, j 1, eq_ix2 j⟩
      rw [drop_col] at hd
      obtain rfl : a = p := congrFun hd 0
      exact ⟨k, rfl⟩
    · rintro ⟨k, rfl⟩
      refine ⟨S131072x64.rowMajor (ix2 p k), List.mem_filter.2 ⟨List.mem_finRange _, ?_⟩, ?_⟩
      · rw [Equiv.symm_apply_apply]
        exact decide_eq_true (drop_col p k)
      · rw [Equiv.symm_apply_apply]
        rfl
  have hint : ∀ k : Fin 64, (BitVec.ofNat 32 k.val).toInt = k.val := by decide +kernel
  have hf := foldl_argmin L (constant (F := Ideal) S_ .f32 0x7F800000#32 (Shape.Idx.first h_S_), constantI S_ 32 0#32 (Shape.Idx.first h_S_))
  have hz : (constant (F := Ideal) S_ .f32 0x7F800000#32 (Shape.Idx.first h_S_), constantI S_ 32 0#32 (Shape.Idx.first h_S_))
      = ((⊤ : EReal), 0#32) := Prod.ext inf_eq rfl
  rw [hz] at hf ⊢
  generalize L.foldl (reducer_argmin_f32_i32 (F := Ideal)) ((⊤ : EReal), 0#32) = r at hf ⊢
  obtain ⟨hr, hle⟩ := hf
  have hall : ∀ k : Fin 64, r.1 ≤ x (ix2 p k) ∧ (x (ix2 p k) = r.1 → r.2.toInt ≤ k.val) := fun k => by
    have := hle _ (List.mem_cons_of_mem _ ((hmem _).2 ⟨k, rfl⟩))
    rwa [hint] at this
  rcases List.mem_cons.mp hr with rfl | hr
  · have h0 : (0 : Fin 64) = firstMin fun k => x (ix2 p k) := eq_firstMin
      ⟨fun k => le_top.trans (hall k).1, fun k _ => Fin.zero_le k⟩
    rw [← h0]
    rfl
  · obtain ⟨i, rfl⟩ := (hmem _).1 hr
    have h0 : i = firstMin fun k => x (ix2 p k) := eq_firstMin
      ⟨fun k => (hall k).1, fun k hk => by
        have := (hall k).2 hk
        rw [hint] at this
        exact Fin.le_def.mpr (by exact_mod_cast this)⟩
    rw [← h0]

/-- Where an update of the weights lands: at the row and the column its index row names. -/
theorem lands_w (idx : IVec S131072x2 32) (q p : Fin 131072) (c : Fin 64) :
    scatter_S131072x64_S131072x2_S131072_n_01_01_1.resultIdx? (ix1 q) idx = some (ix2 p c)
      ↔ (idx (ix2 q 0)).toInt = p.val ∧ (idx (ix2 q 1)).toInt = c.val := by
  rw [Routing.resultIdx?_eq_some]
  have h0 : scatter_S131072x64_S131072x2_S131072_n_01_01_1.siIdx (ix1 q) ⟨0, by decide⟩ = ix2 q 0 := by
    funext a
    match a with
    | ⟨0, _⟩ => rfl
    | ⟨1, _⟩ => rfl
  have h1 : scatter_S131072x64_S131072x2_S131072_n_01_01_1.siIdx (ix1 q) ⟨1, by decide⟩ = ix2 q 1 := by
    funext a
    match a with
    | ⟨0, _⟩ => rfl
    | ⟨1, _⟩ => rfl
  have s0 : scatter_S131072x64_S131072x2_S131072_n_01_01_1.start (ix1 q) idx 0 = (idx (ix2 q 0)).toInt := by rw [← h0]; rfl
  have s1 : scatter_S131072x64_S131072x2_S131072_n_01_01_1.start (ix1 q) idx 1 = (idx (ix2 q 1)).toInt := by rw [← h1]; rfl
  have w0 : scatter_S131072x64_S131072x2_S131072_n_01_01_1.window (ix1 q) 0 = 0 := rfl
  have w1 : scatter_S131072x64_S131072x2_S131072_n_01_01_1.window (ix1 q) 1 = 0 := rfl
  constructor
  · intro h
    have a0 := h 0
    have a1 := h 1
    rw [s0, w0] at a0
    rw [s1, w1] at a1
    exact ⟨by simpa using a0, by simpa using a1⟩
  · rintro ⟨e0, e1⟩ a
    match a with
    | ⟨0, _⟩ => erw [s0, w0, e0]; rfl
    | ⟨1, _⟩ => erw [s1, w1, e1]; rfl

/-- Where an update of the features or of the units lands. -/
theorem lands_f (idx : IVec S131072x2 32) (q p : Fin 131072) (y z : Fin 1) (c : Fin 64) :
    scatter_S131072x64x1_S131072x2_S131072x1_1_01_01_1.resultIdx? (ix2 q y) idx = some (ix3 p c z)
      ↔ (idx (ix2 q 0)).toInt = p.val ∧ (idx (ix2 q 1)).toInt = c.val := by
  obtain rfl : y = 0 := Subsingleton.elim _ _
  obtain rfl : z = 0 := Subsingleton.elim _ _
  rw [Routing.resultIdx?_eq_some]
  have h0 : scatter_S131072x64x1_S131072x2_S131072x1_1_01_01_1.siIdx (ix2 q 0) ⟨0, by decide⟩ = ix2 q 0 := by
    funext a
    match a with
    | ⟨0, _⟩ => rfl
    | ⟨1, _⟩ => rfl
  have h1 : scatter_S131072x64x1_S131072x2_S131072x1_1_01_01_1.siIdx (ix2 q 0) ⟨1, by decide⟩ = ix2 q 1 := by
    funext a
    match a with
    | ⟨0, _⟩ => rfl
    | ⟨1, _⟩ => rfl
  have s0 : scatter_S131072x64x1_S131072x2_S131072x1_1_01_01_1.start (ix2 q 0) idx 0 = (idx (ix2 q 0)).toInt := by rw [← h0]; rfl
  have s1 : scatter_S131072x64x1_S131072x2_S131072x1_1_01_01_1.start (ix2 q 0) idx 1 = (idx (ix2 q 1)).toInt := by rw [← h1]; rfl
  have s2 : scatter_S131072x64x1_S131072x2_S131072x1_1_01_01_1.start (ix2 q 0) idx 2 = 0 := rfl
  have w0 : scatter_S131072x64x1_S131072x2_S131072x1_1_01_01_1.window (ix2 q 0) 0 = 0 := rfl
  have w1 : scatter_S131072x64x1_S131072x2_S131072x1_1_01_01_1.window (ix2 q 0) 1 = 0 := rfl
  have w2 : scatter_S131072x64x1_S131072x2_S131072x1_1_01_01_1.window (ix2 q 0) 2 = 0 := rfl
  constructor
  · intro h
    have a0 := h 0
    have a1 := h 1
    rw [s0, w0] at a0
    rw [s1, w1] at a1
    exact ⟨by simpa using a0, by simpa using a1⟩
  · rintro ⟨e0, e1⟩ a
    match a with
    | ⟨0, _⟩ => erw [s0, w0, e0]; rfl
    | ⟨1, _⟩ => erw [s1, w1, e1]; rfl
    | ⟨2, _⟩ => erw [s2, w2]; rfl

/-- An index pair per row that names the row itself and a column of it. -/
def Names (idx : IVec S131072x2 32) (i : Fin 131072 → Fin 64) : Prop :=
  ∀ p, (idx (ix2 p 0)).toInt = p.val ∧ (idx (ix2 p 1)).toInt = (i p).val

/-- The write of one weight per row. -/
theorem scatter_w (idx : IVec S131072x2 32) (i : Fin 131072 → Fin 64) (hi : Names idx i) (x : FVec Ideal S131072x64 .f32)
    (u : FVec Ideal S131072 .f32) (p : Fin 131072) (j : Fin 64) :
    Host.scatter scatter_S131072x64_S131072x2_S131072_n_01_01_1 (fun _ b => b) x idx u (ix2 p j)
      = if j = i p then u (ix1 p) else x (ix2 p j) := by
  have hl : ∀ q : Fin 131072, scatter_S131072x64_S131072x2_S131072_n_01_01_1.resultIdx? (ix1 q) idx = some (ix2 p j) ↔ q = p ∧ j = i q := fun q => by
    rw [lands_w, (hi q).1, (hi q).2, Nat.cast_inj, Nat.cast_inj, Fin.val_inj, Fin.val_inj]
    exact and_congr_right fun _ => eq_comm
  split_ifs with h
  · refine Routing.scatter_set_hit _ _ _ _ _ _ (fun k hk => ?_) (ix1 p) ((hl p).2 ⟨rfl, h⟩)
    rw [eq_ix1 k] at hk ⊢
    rw [((hl _).1 hk).1]
  · refine Routing.scatter_set_miss _ _ _ _ _ fun k hk => ?_
    rw [eq_ix1 k] at hk
    obtain ⟨e, e'⟩ := (hl _).1 hk
    rw [e] at e'
    exact h e'

/-- The write of one feature or unit per row. -/
theorem scatter_f (idx : IVec S131072x2 32) (i : Fin 131072 → Fin 64) (hi : Names idx i) (x : FVec Ideal S131072x64x1 .f32)
    (u : FVec Ideal S131072x1 .f32) (p : Fin 131072) (j : Fin 64) :
    Host.scatter scatter_S131072x64x1_S131072x2_S131072x1_1_01_01_1 (fun _ b => b) x idx u (ix3 p j 0)
      = if j = i p then u (ix2 p 0) else x (ix3 p j 0) := by
  have hl : ∀ (q : Fin 131072) (y : Fin 1), scatter_S131072x64x1_S131072x2_S131072x1_1_01_01_1.resultIdx? (ix2 q y) idx = some (ix3 p j 0)
      ↔ q = p ∧ j = i q := fun q y => by
    rw [lands_f, (hi q).1, (hi q).2, Nat.cast_inj, Nat.cast_inj, Fin.val_inj, Fin.val_inj]
    exact and_congr_right fun _ => eq_comm
  split_ifs with h
  · refine Routing.scatter_set_hit _ _ _ _ _ _ (fun k hk => ?_) (ix2 p 0) ((hl p 0).2 ⟨rfl, h⟩)
    rw [eq_ix2 k] at hk ⊢
    rw [((hl _ _).1 hk).1]
    exact congrArg (fun y : Fin 1 => u (ix2 p y)) (Subsingleton.elim _ _)
  · refine Routing.scatter_set_miss _ _ _ _ _ fun k hk => ?_
    rw [eq_ix2 k] at hk
    obtain ⟨e, e'⟩ := (hl _ _).1 hk
    rw [e] at e'
    exact h e'

end Cert.RefOps

end
-- ==== Proof.RefStep.lean ====
/- One round of the reference, read at a row: what the round writes is one round of the row's state. -/
module

public import proofs.«01_k».proof.Proof.RefRun
public import proofs.«01_k».proof.Proof.RefOps

@[expose] public section

set_option maxRecDepth 16384

noncomputable section

namespace Cert.RefStep

open Cert.ReferenceIdeal Cert.ReferenceIdeal.Gen Cert.Straight Cert.RefRun Cert.RefOps Cert.Spec
open Idealize.ShloMosaic Idealize.ShloMosaic.TcCoe Idealize.ShloMosaic.StableHlo

/-- The valuations of the reference program over the extended reals. -/
abbrev Vals := Valuation τ sig (Elt Ideal)

/-- Row `p` of the weights. -/
def wRow (V : Vals) (x : TRef sig ⟨S131072x64, .f32⟩) (p : Fin 131072) (j : Fin 64) : EReal := rd V x (ix2 p j)

/-- Row `p` of the features or of the units. -/
def fRow (V : Vals) (x : TRef sig ⟨S131072x64x1, .f32⟩) (p : Fin 131072) (j : Fin 64) : EReal := rd V x (ix3 p j 0)

/-- The row of `L` a round reads. -/
def lRow (V : Vals) (x : TRef sig ⟨S64, .f32⟩) (j : Fin 64) : EReal := rd V x (ix1 j)

/-- The bias a round reads. -/
def bVal (V : Vals) (x : TRef sig ⟨S1, .f32⟩) : EReal := rd V x (ix1 0)

/-- A 32-bit word that holds a number below 2^31 is that number as a signed one. -/
theorem toInt_ofNat {n : ℕ} (h : n < 2147483648) : (BitVec.ofNat 32 n).toInt = n := by
  have e : (BitVec.ofNat 32 n).toNat = n := by rw [BitVec.toNat_ofNat]; omega
  rw [BitVec.toInt_eq_toNat_cond, e]
  omega

/-- The printed index rows, from the row numbers and a column per row, name that row and that column. -/
theorem names_pair (c : IVec S131072 32) (i : Fin 131072 → Fin 64) (hc : ∀ p, c (ix1 p) = BitVec.ofNat 32 (i p).val) :
    Names (concatenate S131072x2 1 [⟨S131072x1, broadcastInDim S131072x1 ![0] bcast_S131072_S131072x1_0
        (select (cmpi .slt (iotaInDim S131072 32 0) (broadcastInDim S131072 ![] bcast_S_S131072 (constantI S_ 32 0#32)))
          (addi (iotaInDim S131072 32 0) (broadcastInDim S131072 ![] bcast_S_S131072 (constantI S_ 32 131072#32)))
          (iotaInDim S131072 32 0))⟩,
      ⟨S131072x1, broadcastInDim S131072x1 ![0] bcast_S131072_S131072x1_0
        (select (cmpi .slt c (broadcastInDim S131072 ![] bcast_S_S131072 (constantI S_ 32 0#32)))
          (addi c (broadcastInDim S131072 ![] bcast_S_S131072 (constantI S_ 32 64#32))) c)⟩]
      concatenates_S131072x1_S131072x1_S131072x2_d1) i := by
  intro p
  constructor
  · pointwise
    rw [Routing.wrap_of_lt _ _ (by rw [BitVec.toNat_ofNat]; have := p.isLt; omega)]
    exact toInt_ofNat (by have := p.isLt; omega)
  · pointwise
    rw [hc, Routing.wrap_of_lt _ _ (by rw [BitVec.toNat_ofNat]; have := (i p).isLt; omega)]
    exact toInt_ofNat (by have := (i p).isLt; omega)

set_option maxHeartbeats 4000000 in
/-- One round of the reference, row by row: the weights, features and units it leaves are `St.next` of those it found,
    and the unit it made is the row of `L` times the units. -/
theorem step (a : Args) (φ : fn_step.Bufs) (h : Line (stepOps (F := Ideal) a φ) (stepRefs φ)) (V : Vals)
    (hw : a.w.ref ∉ stepRefs φ) (hf : a.f.ref ∉ stepRefs φ) (hh : a.h.ref ∉ stepRefs φ) (hl : a.l.ref ∉ stepRefs φ)
    (hb : a.b.ref ∉ stepRefs φ) (p : Fin 131072) :
    (⟨wRow (after (stepOps a φ) V) φ.v27 p, fRow (after (stepOps a φ) V) φ.v46 p, fRow (after (stepOps a φ) V) φ.v60 p⟩ : St)
        = (⟨wRow V a.w p, fRow V a.f p, fRow V a.h p⟩ : St).next (lRow V a.l) (bVal V a.b)
      ∧ rd (after (stepOps a φ) V) φ.v28 (ix2 p 0) = unit (lRow V a.l) (fRow V a.h p) := by
  have kw := h.keep V a.w hw
  have kf := h.keep V a.f hf
  have kh := h.keep V a.h hh
  have kl := h.keep V a.l hl
  have kb := h.keep V a.b hb
  have e0 := h.nullary V 0 rfl rfl
  have e1 := h.unary V 1 rfl rfl (Line.never hl)
  have e2 := h.nullary V 2 rfl rfl
  have e3 := h.unary V 3 rfl rfl (h.avail (k := 2) rfl (by decide))
  have e4 := h.binary V 4 rfl rfl (h.avail (k := 1) rfl (by decide)) (h.avail (k := 3) rfl (by decide))
  have e5 := h.unary V 5 rfl rfl (h.avail (k := 4) rfl (by decide))
  have e6 := h.binary V 6 rfl rfl (Line.never hw) (h.avail (k := 5) rfl (by decide))
  have e7 := h.nullary V 7 rfl rfl
  have e8 := h.binary V 8 rfl rfl (h.avail (k := 6) rfl (by decide)) (h.avail (k := 7) rfl (by decide))
  have e9 := h.nullary V 9 rfl rfl
  have e10 := h.nullary V 10 rfl rfl
  have e11 := h.nullary V 11 rfl rfl
  have e13 := h.quaternary V 13 rfl rfl (h.avail (k := 6) rfl (by decide)) (h.avail (k := 9) rfl (by decide)) (h.avail (k := 10) rfl (by decide)) (h.avail (k := 11) rfl (by decide))
  have e14 := h.unary V 14 rfl rfl (h.avail (k := 8) rfl (by decide))
  have e15 := h.unary V 15 rfl rfl (Line.never hl)
  have e16 := h.unary V 16 rfl rfl (h.avail (k := 14) rfl (by decide))
  have e17 := h.unary V 17 rfl rfl (h.avail (k := 15) rfl (by decide))
  have e18 := h.binary V 18 rfl rfl (h.avail (k := 16) rfl (by decide)) (h.avail (k := 17) rfl (by decide))
  have e19 := h.binary V 19 rfl rfl (Line.never hw) (h.avail (k := 18) rfl (by decide))
  have e20 := h.nullary V 20 rfl rfl
  have e21 := h.unary V 21 rfl rfl (h.avail (k := 20) rfl (by decide))
  have e22 := h.binary V 22 rfl rfl (h.avail (k := 0) rfl (by decide)) (h.avail (k := 21) rfl (by decide))
  have e23 := h.nullary V 23 rfl rfl
  have e24 := h.unary V 24 rfl rfl (h.avail (k := 23) rfl (by decide))
  have e25 := h.binary V 25 rfl rfl (h.avail (k := 0) rfl (by decide)) (h.avail (k := 24) rfl (by decide))
  have e26 := h.ternary V 26 rfl rfl (h.avail (k := 22) rfl (by decide)) (h.avail (k := 25) rfl (by decide)) (h.avail (k := 0) rfl (by decide))
  have e27 := h.nullary V 27 rfl rfl
  have e28 := h.unary V 28 rfl rfl (h.avail (k := 27) rfl (by decide))
  have e29 := h.binary V 29 rfl rfl (h.avail (k := 13) rfl (by decide)) (h.avail (k := 28) rfl (by decide))
  have e30 := h.nullary V 30 rfl rfl
  have e31 := h.unary V 31 rfl rfl (h.avail (k := 30) rfl (by decide))
  have e32 := h.binary V 32 rfl rfl (h.avail (k := 13) rfl (by decide)) (h.avail (k := 31) rfl (by decide))
  have e33 := h.ternary V 33 rfl rfl (h.avail (k := 29) rfl (by decide)) (h.avail (k := 32) rfl (by decide)) (h.avail (k := 13) rfl (by decide))
  have e34 := h.unary V 34 rfl rfl (h.avail (k := 26) rfl (by decide))
  have e35 := h.unary V 35 rfl rfl (h.avail (k := 33) rfl (by decide))
  have e36 := h.binary V 36 rfl rfl (h.avail (k := 34) rfl (by decide)) (h.avail (k := 35) rfl (by decide))
  have e37 := h.ternary V 37 rfl rfl (h.avail (k := 19) rfl (by decide)) (h.avail (k := 36) rfl (by decide)) (h.avail (k := 8) rfl (by decide))
  have e38 := h.binary V 38 rfl rfl (Line.never hl) (Line.never hh)
  have e39 := h.binary V 39 rfl rfl (Line.never hl) (Line.never hf)
  have e40 := h.unary V 40 rfl rfl (Line.never hb)
  have e41 := h.unary V 41 rfl rfl (h.avail (k := 40) rfl (by decide))
  have e42 := h.binary V 42 rfl rfl (h.avail (k := 39) rfl (by decide)) (h.avail (k := 41) rfl (by decide))
  have e43 := h.nullary V 43 rfl rfl
  have e44 := h.unary V 44 rfl rfl (h.avail (k := 43) rfl (by decide))
  have e45 := h.binary V 45 rfl rfl (h.avail (k := 0) rfl (by decide)) (h.avail (k := 44) rfl (by decide))
  have e46 := h.nullary V 46 rfl rfl
  have e47 := h.unary V 47 rfl rfl (h.avail (k := 46) rfl (by decide))
  have e48 := h.binary V 48 rfl rfl (h.avail (k := 0) rfl (by decide)) (h.avail (k := 47) rfl (by decide))
  have e49 := h.ternary V 49 rfl rfl (h.avail (k := 45) rfl (by decide)) (h.avail (k := 48) rfl (by decide)) (h.avail (k := 0) rfl (by decide))
  have e50 := h.nullary V 50 rfl rfl
  have e51 := h.unary V 51 rfl rfl (h.avail (k := 50) rfl (by decide))
  have e52 := h.binary V 52 rfl rfl (h.avail (k := 13) rfl (by decide)) (h.avail (k := 51) rfl (by decide))
  have e53 := h.nullary V 53 rfl rfl
  have e54 := h.unary V 54 rfl rfl (h.avail (k := 53) rfl (by decide))
  have e55 := h.binary V 55 rfl rfl (h.avail (k := 13) rfl (by decide)) (h.avail (k := 54) rfl (by decide))
  have e56 := h.ternary V 56 rfl rfl (h.avail (k := 52) rfl (by decide)) (h.avail (k := 55) rfl (by decide)) (h.avail (k := 13) rfl (by decide))
  have e57 := h.unary V 57 rfl rfl (h.avail (k := 49) rfl (by decide))
  have e58 := h.unary V 58 rfl rfl (h.avail (k := 56) rfl (by decide))
  have e59 := h.binary V 59 rfl rfl (h.avail (k := 57) rfl (by decide)) (h.avail (k := 58) rfl (by decide))
  have e60 := h.ternary V 60 rfl rfl (Line.never hf) (h.avail (k := 59) rfl (by decide)) (h.avail (k := 42) rfl (by decide))
  have e61 := h.nullary V 61 rfl rfl
  have e62 := h.unary V 62 rfl rfl (h.avail (k := 61) rfl (by decide))
  have e63 := h.binary V 63 rfl rfl (h.avail (k := 0) rfl (by decide)) (h.avail (k := 62) rfl (by decide))
  have e64 := h.nullary V 64 rfl rfl
  have e65 := h.unary V 65 rfl rfl (h.avail (k := 64) rfl (by decide))
  have e66 := h.binary V 66 rfl rfl (h.avail (k := 0) rfl (by decide)) (h.avail (k := 65) rfl (by decide))
  have e67 := h.ternary V 67 rfl rfl (h.avail (k := 63) rfl (by decide)) (h.avail (k := 66) rfl (by decide)) (h.avail (k := 0) rfl (by decide))
  have e68 := h.nullary V 68 rfl rfl
  have e69 := h.unary V 69 rfl rfl (h.avail (k := 68) rfl (by decide))
  have e70 := h.binary V 70 rfl rfl (h.avail (k := 13) rfl (by decide)) (h.avail (k := 69) rfl (by decide))
  have e71 := h.nullary V 71 rfl rfl
  have e72 := h.unary V 72 rfl rfl (h.avail (k := 71) rfl (by decide))
  have e73 := h.binary V 73 rfl rfl (h.avail (k := 13) rfl (by decide)) (h.avail (k := 72) rfl (by decide))
  have e74 := h.ternary V 74 rfl rfl (h.avail (k := 70) rfl (by decide)) (h.avail (k := 73) rfl (by decide)) (h.avail (k := 13) rfl (by decide))
  have e75 := h.unary V 75 rfl rfl (h.avail (k := 67) rfl (by decide))
  have e76 := h.unary V 76 rfl rfl (h.avail (k := 74) rfl (by decide))
  have e77 := h.binary V 77 rfl rfl (h.avail (k := 75) rfl (by decide)) (h.avail (k := 76) rfl (by decide))
  have e78 := h.ternary V 78 rfl rfl (Line.never hh) (h.avail (k := 77) rfl (by decide)) (h.avail (k := 38) rfl (by decide))
  rw [kl] at e1 e15 e38 e39
  rw [kw] at e6 e19
  rw [kf] at e39 e60
  rw [kh] at e38 e78
  rw [kb] at e40
  generalize after (stepOps a φ) V = U at *
  rw [e5, e4, e3, e1, e2] at e6
  have r6 : ∀ (q : Fin 131072) (j : Fin 64), rd U φ.v5 (ix2 q j) = ratio (lRow V a.l) (wRow V a.w q) j := fun q j => by
    rw [e6]
    pointwise
    rfl
  rw [e7] at e8
  have r8 : ∀ q : Fin 131072, rd U φ.v6 (ix1 q) = least (lRow V a.l) (wRow V a.w q) := fun q => by
    rw [e8]
    pointwise
    simp only [r6]
    rw [inf_eq]
    exact fold_min _
  have r13 : ∀ q : Fin 131072, rd U φ.call0.v1_1 (ix1 q) = BitVec.ofNat 32 (pick (lRow V a.l) (wRow V a.w q)).val := fun q => by
    rw [e13, e9, e10, e11]
    refine (argmin_row _ q).trans ?_
    rw [pick]
    congr 3
    exact funext fun j => r6 q j
  rw [e18, e16, e17, e14, e15] at e19
  have r19 : ∀ (q : Fin 131072) (j : Fin 64), rd U φ.v13 (ix2 q j)
      = wRow V a.w q j - least (lRow V a.l) (wRow V a.w q) * lRow V a.l j := fun q j => by
    rw [e19]
    pointwise
    rw [r8]
    rfl
  have n36 : Names (rd U φ.v26) fun q => pick (lRow V a.l) (wRow V a.w q) := by
    rw [e36, e34, e35, e26, e33, e22, e25, e29, e32, e21, e24, e28, e31, e20, e23, e27, e30, e0]
    exact names_pair _ _ r13
  have n59 : Names (rd U φ.v45) fun q => pick (lRow V a.l) (wRow V a.w q) := by
    rw [e59, e57, e58, e49, e56, e45, e48, e52, e55, e44, e47, e51, e54, e43, e46, e50, e53, e0]
    exact names_pair _ _ r13
  have n77 : Names (rd U φ.v59) fun q => pick (lRow V a.l) (wRow V a.w q) := by
    rw [e77, e75, e76, e67, e74, e63, e66, e70, e73, e62, e65, e69, e72, e61, e64, e68, e71, e0]
    exact names_pair _ _ r13
  have r38 : ∀ q : Fin 131072, rd U φ.v28 (ix2 q 0) = unit (lRow V a.l) (fRow V a.h q) := fun q => by
    rw [e38]
    pointwise
    rfl
  have r42 : ∀ q : Fin 131072, rd U φ.v32 (ix2 q 0) = feat (lRow V a.l) (bVal V a.b) (fRow V a.f q) := fun q => by
    rw [e42, e39, e41, e40]
    pointwise
    rfl
  refine ⟨?_, r38 p⟩
  unfold St.next
  congr 1
  · funext j
    show rd U φ.v27 (ix2 p j) = _
    rw [e37, scatter_w _ _ n36, r8, r19]
    rfl
  · funext j
    show rd U φ.v46 (ix3 p j 0) = _
    rw [e60, scatter_f _ _ n59, r42]
    rfl
  · funext j
    show rd U φ.v60 (ix3 p j 0) = _
    rw [e78, scatter_f _ _ n77, r38]
    rfl

end Cert.RefStep

end
-- ==== Proof.RefValue.lean ====
/- The reference's thirteen results, row by row: the row's state after each round, the units the rounds make, and the
   product of the last weights and features. -/
module

public import proofs.«01_k».proof.Proof.RefStep

@[expose] public section

set_option maxRecDepth 16384

noncomputable section

namespace Cert.RefValue

open Cert.ReferenceIdeal Cert.ReferenceIdeal.Gen Cert.Straight Cert.RefRun Cert.RefOps Cert.Spec Cert.RefStep
open Idealize.ShloMosaic Idealize.ShloMosaic.TcCoe Idealize.ShloMosaic.StableHlo

/-- Row `i` of `L`, zero past its six rows. -/
def lOf (x : FVec Ideal S6x64 .f32) (i : ℕ) (j : Fin 64) : EReal := if h : i < 6 then x (ix2 ⟨i, h⟩ j) else 0

/-- Bias `i`, zero past the six. -/
def bOf (x : FVec Ideal S6x1 .f32) (i : ℕ) : EReal := if h : i < 6 then x (ix2 ⟨i, h⟩ 0) else 0

/-- The state row `p` starts from. -/
def startOf (x : FVec Ideal S131072x63 .f32) (u f : FVec Ideal S64x1 .f32) (p : Fin 131072) : St :=
  ⟨wStart fun k => x (ix2 p k), fun j => f (ix2 j 0), fun j => u (ix2 j 0)⟩

/-- Row `p`'s state after `i` rounds, from the contents of the five arguments. -/
def stateOf (x : FVec Ideal S131072x63 .f32) (u f : FVec Ideal S64x1 .f32) (b : FVec Ideal S6x1 .f32) (l : FVec Ideal S6x64 .f32)
    (p : Fin 131072) (i : ℕ) : St := state (startOf x u f p) (lOf l) (bOf b) i

/-- `stateOf` at the arguments' contents under a valuation. -/
abbrev stateAt (V : Vals) (p : Fin 131072) (i : ℕ) : St :=
  stateOf (V (Proc.devRef .tc main_arg0)) (V (Proc.devRef .tc main_arg1)) (V (Proc.devRef .tc main_arg2))
    (V (Proc.devRef .tc main_arg3)) (V (Proc.devRef .tc main_arg4)) p i

/-- Under `V` three references hold every row's state after `i` rounds from `V₀`, and `L` and the biases are as in `V₀`. -/
structure Holds (V₀ V : Vals) (i : ℕ) (w : TRef sig ⟨S131072x64, .f32⟩) (f h : TRef sig ⟨S131072x64x1, .f32⟩) : Prop where
  rows : ∀ p, (⟨wRow V w p, fRow V f p, fRow V h p⟩ : St) = stateAt V₀ p i
  b : V (Proc.devRef .tc main_arg3) = V₀ (Proc.devRef .tc main_arg3)
  l : V (Proc.devRef .tc main_arg4) = V₀ (Proc.devRef .tc main_arg4)

/-- A round takes the state after `i` rounds to that after `i + 1`, and makes the unit of the state it found. -/
theorem Holds.step {V₀ V : Vals} {i : ℕ} (a : Args) (φ : fn_step.Bufs) (H : Holds V₀ V i a.w a.f a.h)
    (h : Line (stepOps (F := Ideal) a φ) (stepRefs φ)) (hl : lRow V a.l = lOf (V₀ (Proc.devRef .tc main_arg4)) i)
    (hb : bVal V a.b = bOf (V₀ (Proc.devRef .tc main_arg3)) i)
    (ha : ∀ r ∈ [a.w.ref, a.f.ref, a.h.ref, a.l.ref, a.b.ref, main_arg3, main_arg4], r ∉ stepRefs φ) :
    Holds V₀ (after (stepOps a φ) V) (i + 1) φ.v27 φ.v46 φ.v60
      ∧ ∀ p, rd (after (stepOps a φ) V) φ.v28 (ix2 p 0)
          = unit (lOf (V₀ (Proc.devRef .tc main_arg4)) i) (stateAt V₀ p i).h := by
  have hs := RefStep.step a φ h V (ha _ (by simp)) (ha _ (by simp)) (ha _ (by simp)) (ha _ (by simp)) (ha _ (by simp))
  refine ⟨⟨fun p => ?_, ?_, ?_⟩, fun p => ?_⟩
  · rw [(hs p).1, H.rows p, hl, hb]
    rfl
  · exact (kept h V main_arg3 (ha _ (by simp))).trans H.b
  · exact (kept h V main_arg4 (ha _ (by simp))).trans H.l
  · rw [(hs p).2, hl, ← H.rows p]

/-- The operations between two rounds keep the state. -/
theorem Holds.keep {V₀ V : Vals} {i : ℕ} {w : TRef sig ⟨S131072x64, .f32⟩} {f h : TRef sig ⟨S131072x64x1, .f32⟩}
    (H : Holds V₀ V i w f h) {sl : List (HloOp τ sig (Elt Ideal))} {W : List (Ref sig .tc)} (hs : Line sl W)
    (ha : ∀ r ∈ [w.ref, f.ref, h.ref, main_arg3, main_arg4], r ∉ W) : Holds V₀ (after sl V) i w f h where
  rows p := by
    rw [← H.rows p]
    unfold wRow fRow
    rw [hs.keep V w (ha _ (by simp)), hs.keep V f (ha _ (by simp)), hs.keep V h (ha _ (by simp))]
  b := (kept hs V main_arg3 (ha _ (by simp))).trans H.b
  l := (kept hs V main_arg4 (ha _ (by simp))).trans H.l

/-- The row of `L` and the bias of round 0. -/
theorem read0 (V : Vals) : lRow (after preOps V) args0.l = lOf (V (Proc.devRef .tc main_arg4)) 0
    ∧ bVal (after preOps V) args0.b = bOf (V (Proc.devRef .tc main_arg3)) 0 := by
  constructor
  · funext j
    show after preOps V (main_v14 : DevRef τ sig) (ix1 j) = _
    after_results
    pointwise
    rfl
  · show after preOps V (main_v16 : DevRef τ sig) (ix1 0) = _
    after_results
    pointwise
    rfl

/-- The row of `L` and the bias of round 1. -/
theorem read1 (V : Vals) : lRow (after sliceOps1 V) args1.l = lOf (V (Proc.devRef .tc main_arg4)) 1
    ∧ bVal (after sliceOps1 V) args1.b = bOf (V (Proc.devRef .tc main_arg3)) 1 := by
  constructor
  · funext j
    show after sliceOps1 V (main_v19 : DevRef τ sig) (ix1 j) = _
    after_results
    pointwise
    rfl
  · show after sliceOps1 V (main_v21 : DevRef τ sig) (ix1 0) = _
    after_results
    pointwise
    rfl

/-- The row of `L` and the bias of round 2. -/
theorem read2 (V : Vals) : lRow (after sliceOps2 V) args2.l = lOf (V (Proc.devRef .tc main_arg4)) 2
    ∧ bVal (after sliceOps2 V) args2.b = bOf (V (Proc.devRef .tc main_arg3)) 2 := by
  constructor
  · funext j
    show after sliceOps2 V (main_v24 : DevRef τ sig) (ix1 j) = _
    after_results
    pointwise
    rfl
  · show after sliceOps2 V (main_v26 : DevRef τ sig) (ix1 0) = _
    after_results
    pointwise
    rfl

/-- The row of `L` and the bias of round 3. -/
theorem read3 (V : Vals) : lRow (after sliceOps3 V) args3.l = lOf (V (Proc.devRef .tc main_arg4)) 3
    ∧ bVal (after sliceOps3 V) args3.b = bOf (V (Proc.devRef .tc main_arg3)) 3 := by
  constructor
  · funext j
    show after sliceOps3 V (main_v29 : DevRef τ sig) (ix1 j) = _
    after_results
    pointwise
    rfl
  · show after sliceOps3 V (main_v31 : DevRef τ sig) (ix1 0) = _
    after_results
    pointwise
    rfl

/-- The row of `L` and the bias of round 4. -/
theorem read4 (V : Vals) : lRow (after sliceOps4 V) args4.l = lOf (V (Proc.devRef .tc main_arg4)) 4
    ∧ bVal (after sliceOps4 V) args4.b = bOf (V (Proc.devRef .tc main_arg3)) 4 := by
  constructor
  · funext j
    show after sliceOps4 V (main_v34 : DevRef τ sig) (ix1 j) = _
    after_results
    pointwise
    rfl
  · show after sliceOps4 V (main_v36 : DevRef τ sig) (ix1 0) = _
    after_results
    pointwise
    rfl

/-- The row of `L` and the bias of round 5. -/
theorem read5 (V : Vals) : lRow (after sliceOps5 V) args5.l = lOf (V (Proc.devRef .tc main_arg4)) 5
    ∧ bVal (after sliceOps5 V) args5.b = bOf (V (Proc.devRef .tc main_arg3)) 5 := by
  constructor
  · funext j
    show after sliceOps5 V (main_v39 : DevRef τ sig) (ix1 j) = _
    after_results
    pointwise
    rfl
  · show after sliceOps5 V (main_v41 : DevRef τ sig) (ix1 0) = _
    after_results
    pointwise
    rfl

/-- Before the first round every row holds the state it starts from. -/
theorem start (V : Vals) : Holds V (after preOps V) 0 args0.w args0.f args0.h where
  rows p := by
    have hw : wRow (after preOps V) (.of main_v12) p = wStart fun k => V (Proc.devRef .tc main_arg0) (ix2 p k) := by
      funext j
      show after preOps V (main_v12 : DevRef τ sig) (ix2 p j) = _
      after_results
      pointwise
      unfold wStart
      refine Fin.cases ?_ (fun k => ?_) j
      · rfl
      · rw [dif_neg (by simp)]
        rfl
    have hf : fRow (after preOps V) (.of main_v3) p = fun j => V (Proc.devRef .tc main_arg2) (ix2 j (0 : Fin 1)) := by
      funext j
      show after preOps V (main_v3 : DevRef τ sig) (ix3 p j 0) = _
      after_results
      pointwise
    have hh : fRow (after preOps V) (.of main_v7) p = fun j => V (Proc.devRef .tc main_arg1) (ix2 j (0 : Fin 1)) := by
      funext j
      show after preOps V (main_v7 : DevRef τ sig) (ix3 p j 0) = _
      after_results
      pointwise
    unfold stateAt stateOf state startOf
    rw [hw, hf, hh]
  b := kept preLine V main_arg3 (by decide)
  l := kept preLine V main_arg4 (by decide)

/-- What the operations after the last round leave: the weights times the features. -/
theorem last (V : Vals) (p : Fin 131072) : after postOps V (Proc.devRef .tc main_v44) (ix3 p (0 : Fin 1) (0 : Fin 1))
    = ∑ v, wRow V (.of main_v42_0) p v * fRow V (.of main_v42_1) p v := by
  show after postOps V (main_v44 : DevRef τ sig) (ix3 p 0 0) = _
  after_results
  pointwise
  rfl

/-- One round and the operations before it. -/
theorem Holds.advance {V₀ V : Vals} {i : ℕ} (a : Args) (φ : fn_step.Bufs) (H : Holds V₀ V i a.w a.f a.h)
    (h : Line (stepOps (F := Ideal) a φ) (stepRefs φ)) {sl : List (HloOp τ sig (Elt Ideal))} {W : List (Ref sig .tc)} (hs : Line sl W)
    (hr : ∀ U : Vals, lRow (after sl U) a.l = lOf (U (Proc.devRef .tc main_arg4)) i
      ∧ bVal (after sl U) a.b = bOf (U (Proc.devRef .tc main_arg3)) i)
    (hk : ∀ r ∈ [a.w.ref, a.f.ref, a.h.ref, main_arg3, main_arg4], r ∉ W)
    (ha : ∀ r ∈ [a.w.ref, a.f.ref, a.h.ref, a.l.ref, a.b.ref, main_arg3, main_arg4], r ∉ stepRefs φ) :
    Holds V₀ (after (stepOps a φ) (after sl V)) (i + 1) φ.v27 φ.v46 φ.v60
      ∧ ∀ p, rd (after (stepOps a φ) (after sl V)) φ.v28 (ix2 p 0)
          = unit (lOf (V₀ (Proc.devRef .tc main_arg4)) i) (stateAt V₀ p i).h :=
  (H.keep hs hk).step a φ h ((hr V).1.trans (by rw [H.l])) ((hr V).2.trans (by rw [H.b])) ha

/-- The weights, features and units under a valuation that holds a round's state. -/
theorem Holds.hAt {V₀ U : Vals} {i : ℕ} {w : TRef sig ⟨S131072x64, .f32⟩} {f h : TRef sig ⟨S131072x64x1, .f32⟩}
    (H : Holds V₀ U i w f h) (p : Fin 131072) (j : Fin 64) : rd U h (ix3 p j 0) = (stateAt V₀ p i).h j :=
  congrFun (congrArg St.h (H.rows p)) j

/-- The weights times the features under a valuation that holds a round's state. -/
theorem Holds.sumAt {V₀ U : Vals} {i : ℕ} {w : TRef sig ⟨S131072x64, .f32⟩} {f h : TRef sig ⟨S131072x64x1, .f32⟩}
    (H : Holds V₀ U i w f h) (p : Fin 131072) : ∑ v, wRow U w p v * fRow U f p v = result (stateAt V₀ p i) :=
  congrArg result (H.rows p)

/-- The thirteen results at row `p`. -/
structure Results (V₀ U : Vals) (p : Fin 131072) : Prop where
  out : U (Proc.devRef .tc main_v44) (ix3 p (0 : Fin 1) (0 : Fin 1)) = result (stateAt V₀ p 6)
  h0 : ∀ j : Fin 64, rd U args0.h (ix3 p j 0) = (stateAt V₀ p 0).h j
  n0 : rd U main_call0.v28 (ix2 p 0) = unit (lOf (V₀ (Proc.devRef .tc main_arg4)) 0) (stateAt V₀ p 0).h
  h1 : ∀ j : Fin 64, rd U args1.h (ix3 p j 0) = (stateAt V₀ p 1).h j
  n1 : rd U main_call1.v28 (ix2 p 0) = unit (lOf (V₀ (Proc.devRef .tc main_arg4)) 1) (stateAt V₀ p 1).h
  h2 : ∀ j : Fin 64, rd U args2.h (ix3 p j 0) = (stateAt V₀ p 2).h j
  n2 : rd U main_call2.v28 (ix2 p 0) = unit (lOf (V₀ (Proc.devRef .tc main_arg4)) 2) (stateAt V₀ p 2).h
  h3 : ∀ j : Fin 64, rd U args3.h (ix3 p j 0) = (stateAt V₀ p 3).h j
  n3 : rd U main_call3.v28 (ix2 p 0) = unit (lOf (V₀ (Proc.devRef .tc main_arg4)) 3) (stateAt V₀ p 3).h
  h4 : ∀ j : Fin 64, rd U args4.h (ix3 p j 0) = (stateAt V₀ p 4).h j
  n4 : rd U main_call4.v28 (ix2 p 0) = unit (lOf (V₀ (Proc.devRef .tc main_arg4)) 4) (stateAt V₀ p 4).h
  h5 : ∀ j : Fin 64, rd U args5.h (ix3 p j 0) = (stateAt V₀ p 5).h j
  n5 : rd U main_call5.v28 (ix2 p 0) = unit (lOf (V₀ (Proc.devRef .tc main_arg4)) 5) (stateAt V₀ p 5).h

/-- The units round 0 finds and the one it makes are read at the end as they were then. -/
theorem late0 (V : Vals) : rd (after ops V) args0.h = rd (after preOps V) args0.h
    ∧ rd (after ops V) main_call0.v28 = rd (after (stepOps args0 main_call0) (after preOps V)) main_call0.v28 := by
  rw [after_ops]
  constructor
  · rw [postLine.keep _ args0.h (by decide), callLine5.keep _ args0.h (by decide), slice5Line.keep _ args0.h (by decide), callLine4.keep _ args0.h (by decide), slice4Line.keep _ args0.h (by decide), callLine3.keep _ args0.h (by decide), slice3Line.keep _ args0.h (by decide), callLine2.keep _ args0.h (by decide), slice2Line.keep _ args0.h (by decide), callLine1.keep _ args0.h (by decide), slice1Line.keep _ args0.h (by decide), callLine0.keep _ args0.h (by decide)]
  · rw [postLine.keep _ main_call0.v28 (by decide), callLine5.keep _ main_call0.v28 (by decide), slice5Line.keep _ main_call0.v28 (by decide), callLine4.keep _ main_call0.v28 (by decide), slice4Line.keep _ main_call0.v28 (by decide), callLine3.keep _ main_call0.v28 (by decide), slice3Line.keep _ main_call0.v28 (by decide), callLine2.keep _ main_call0.v28 (by decide), slice2Line.keep _ main_call0.v28 (by decide), callLine1.keep _ main_call0.v28 (by decide), slice1Line.keep _ main_call0.v28 (by decide)]

/-- The units round 1 finds and the one it makes are read at the end as they were then. -/
theorem late1 (V : Vals) : rd (after ops V) args1.h = rd (after (stepOps args0 main_call0) (after preOps V)) args1.h
    ∧ rd (after ops V) main_call1.v28 = rd (after (stepOps args1 main_call1) (after sliceOps1 (after (stepOps args0 main_call0) (after preOps V)))) main_call1.v28 := by
  rw [after_ops]
  constructor
  · rw [postLine.keep _ args1.h (by decide), callLine5.keep _ args1.h (by decide), slice5Line.keep _ args1.h (by decide), callLine4.keep _ args1.h (by decide), slice4Line.keep _ args1.h (by decide), callLine3.keep _ args1.h (by decide), slice3Line.keep _ args1.h (by decide), callLine2.keep _ args1.h (by decide), slice2Line.keep _ args1.h (by decide), callLine1.keep _ args1.h (by decide), slice1Line.keep _ args1.h (by decide)]
  · rw [postLine.keep _ main_call1.v28 (by decide), callLine5.keep _ main_call1.v28 (by decide), slice5Line.keep _ main_call1.v28 (by decide), callLine4.keep _ main_call1.v28 (by decide), slice4Line.keep _ main_call1.v28 (by decide), callLine3.keep _ main_call1.v28 (by decide), slice3Line.keep _ main_call1.v28 (by decide), callLine2.keep _ main_call1.v28 (by decide), slice2Line.keep _ main_call1.v28 (by decide)]

/-- The units round 2 finds and the one it makes are read at the end as they were then. -/
theorem late2 (V : Vals) : rd (after ops V) args2.h = rd (after (stepOps args1 main_call1) (after sliceOps1 (after (stepOps args0 main_call0) (after preOps V)))) args2.h
    ∧ rd (after ops V) main_call2.v28 = rd (after (stepOps args2 main_call2) (after sliceOps2 (after (stepOps args1 main_call1) (after sliceOps1 (after (stepOps args0 main_call0) (after preOps V)))))) main_call2.v28 := by
  rw [after_ops]
  constructor
  · rw [postLine.keep _ args2.h (by decide), callLine5.keep _ args2.h (by decide), slice5Line.keep _ args2.h (by decide), callLine4.keep _ args2.h (by decide), slice4Line.keep _ args2.h (by decide), callLine3.keep _ args2.h (by decide), slice3Line.keep _ args2.h (by decide), callLine2.keep _ args2.h (by decide), slice2Line.keep _ args2.h (by decide)]
  · rw [postLine.keep _ main_call2.v28 (by decide), callLine5.keep _ main_call2.v28 (by decide), slice5Line.keep _ main_call2.v28 (by decide), callLine4.keep _ main_call2.v28 (by decide), slice4Line.keep _ main_call2.v28 (by decide), callLine3.keep _ main_call2.v28 (by decide), slice3Line.keep _ main_call2.v28 (by decide)]

/-- The units round 3 finds and the one it makes are read at the end as they were then. -/
theorem late3 (V : Vals) : rd (after ops V) args3.h = rd (after (stepOps args2 main_call2) (after sliceOps2 (after (stepOps args1 main_call1) (after sliceOps1 (after (stepOps args0 main_call0) (after preOps V)))))) args3.h
    ∧ rd (after ops V) main_call3.v28 = rd (after (stepOps args3 main_call3) (after sliceOps3 (after (stepOps args2 main_call2) (after sliceOps2 (after (stepOps args1 main_call1) (after sliceOps1 (after (stepOps args0 main_call0) (after preOps V)))))))) main_call3.v28 := by
  rw [after_ops]
  constructor
  · rw [postLine.keep _ args3.h (by decide), callLine5.keep _ args3.h (by decide), slice5Line.keep _ args3.h (by decide), callLine4.keep _ args3.h (by decide), slice4Line.keep _ args3.h (by decide), callLine3.keep _ args3.h (by decide), slice3Line.keep _ args3.h (by decide)]
  · rw [postLine.keep _ main_call3.v28 (by decide), callLine5.keep _ main_call3.v28 (by decide), slice5Line.keep _ main_call3.v28 (by decide), callLine4.keep _ main_call3.v28 (by decide), slice4Line.keep _ main_call3.v28 (by decide)]

/-- The units round 4 finds and the one it makes are read at the end as they were then. -/
theorem late4 (V : Vals) : rd (after ops V) args4.h = rd (after (stepOps args3 main_call3) (after sliceOps3 (after (stepOps args2 main_call2) (after sliceOps2 (after (stepOps args1 main_call1) (after sliceOps1 (after (stepOps args0 main_call0) (after preOps V)))))))) args4.h
    ∧ rd (after ops V) main_call4.v28 = rd (after (stepOps args4 main_call4) (after sliceOps4 (after (stepOps args3 main_call3) (after sliceOps3 (after (stepOps args2 main_call2) (after sliceOps2 (after (stepOps args1 main_call1) (after sliceOps1 (after (stepOps args0 main_call0) (after preOps V)))))))))) main_call4.v28 := by
  rw [after_ops]
  constructor
  · rw [postLine.keep _ args4.h (by decide), callLine5.keep _ args4.h (by decide), slice5Line.keep _ args4.h (by decide), callLine4.keep _ args4.h (by decide), slice4Line.keep _ args4.h (by decide)]
  · rw [postLine.keep _ main_call4.v28 (by decide), callLine5.keep _ main_call4.v28 (by decide), slice5Line.keep _ main_call4.v28 (by decide)]

/-- The units round 5 finds and the one it makes are read at the end as they were then. -/
theorem late5 (V : Vals) : rd (after ops V) args5.h = rd (after (stepOps args4 main_call4) (after sliceOps4 (after (stepOps args3 main_call3) (after sliceOps3 (after (stepOps args2 main_call2) (after sliceOps2 (after (stepOps args1 main_call1) (after sliceOps1 (after (stepOps args0 main_call0) (after preOps V)))))))))) args5.h
    ∧ rd (after ops V) main_call5.v28 = rd (after (stepOps args5 main_call5) (after sliceOps5 (after (stepOps args4 main_call4) (after sliceOps4 (after (stepOps args3 main_call3) (after sliceOps3 (after (stepOps args2 main_call2) (after sliceOps2 (after (stepOps args1 main_call1) (after sliceOps1 (after (stepOps args0 main_call0) (after preOps V)))))))))))) main_call5.v28 := by
  rw [after_ops]
  constructor
  · rw [postLine.keep _ args5.h (by decide), callLine5.keep _ args5.h (by decide), slice5Line.keep _ args5.h (by decide)]
  · rw [postLine.keep _ main_call5.v28 (by decide)]

/-- The reference leaves every row's results. -/
theorem results (V : Vals) (p : Fin 131072) : Results V (after ops V) p := by
  have H0 := start V
  have H1 := H0.step args0 main_call0 callLine0 (read0 V).1 (read0 V).2 (by decide)
  have H2 := Holds.advance args1 main_call1 H1.1 callLine1 slice1Line read1 (by decide) (by decide)
  have H3 := Holds.advance args2 main_call2 H2.1 callLine2 slice2Line read2 (by decide) (by decide)
  have H4 := Holds.advance args3 main_call3 H3.1 callLine3 slice3Line read3 (by decide) (by decide)
  have H5 := Holds.advance args4 main_call4 H4.1 callLine4 slice4Line read4 (by decide) (by decide)
  have H6 := Holds.advance args5 main_call5 H5.1 callLine5 slice5Line read5 (by decide) (by decide)
  refine ⟨?_, fun j => (congrFun (late0 V).1 _).trans (H0.hAt p j), (congrFun (late0 V).2 _).trans (H1.2 p), fun j => (congrFun (late1 V).1 _).trans (H1.1.hAt p j), (congrFun (late1 V).2 _).trans (H2.2 p), fun j => (congrFun (late2 V).1 _).trans (H2.1.hAt p j), (congrFun (late2 V).2 _).trans (H3.2 p), fun j => (congrFun (late3 V).1 _).trans (H3.1.hAt p j), (congrFun (late3 V).2 _).trans (H4.2 p), fun j => (congrFun (late4 V).1 _).trans (H4.1.hAt p j), (congrFun (late4 V).2 _).trans (H5.2 p), fun j => (congrFun (late5 V).1 _).trans (H5.1.hAt p j), (congrFun (late5 V).2 _).trans (H6.2 p)⟩
  rw [after_ops, last]
  exact H6.1.sumAt p

end Cert.RefValue

end
-- ==== Proof.KerRound.lean ====
/- One round of the kernel on a block, read at a column: the vectors the kernel's body computes in a round, element by
   element, against the round of the specification. -/
module

public import proofs.«01_k».proof.Proof.RefValue
public import proofs.«01_k».proof.Proof.Gen.KernelIdeal.Frame

@[expose] public section

set_option maxRecDepth 16384

noncomputable section

namespace Cert.KerRound

open Cert.KernelIdeal Cert.KernelIdeal.Gen Cert.Spec
open Idealize.ShloMosaic Idealize.ShloMosaic.TcCoe Idealize.ShloMosaic.StableHlo Idealize.SL.Sem

/-- Column `q` of a block of 64 rows. -/
def col (x : FVec Ideal S64x2048 .f32) (q : Fin 2048) (j : Fin 64) : EReal := x (ix2 j q)

/-- The constant 64 is the real 64. -/
theorem const64 : Ideal.ofBits .f32 0x42800000#32 = ((64 : ℝ) : EReal) := by
  simp [Ideal.ofBits, Ideal.ieee, -EReal.coe_mul]
  norm_num

/-- The row numbers the kernel compares with, as reals. -/
theorem rows_at (j : Fin 64) (q : Fin 2048) : (k0_pay3 (F := Ideal)) (ix2 j q) = ((j.val : ℝ) : EReal) := by
  unfold k0_pay3
  pointwise
  show (((BitVec.ofNat 32 j.val).toInt : ℝ) : EReal) = _
  rw [RefStep.toInt_ofNat (by have := j.isLt; omega)]
  norm_cast

/-- The ratios of a column. -/
theorem ratio_at (w : FVec Ideal S64x2048 .f32) (l : FVec Ideal S64x1 .f32) (j : Fin 64) (q : Fin 2048) :
    k0_pay56 w l (ix2 j q) = ratio (fun k => l (ix2 k 0)) (col w q) j := by
  unfold k0_pay56 k0_pay55
  pointwise
  rfl

/-- A column's least ratio. -/
theorem least_at (w : FVec Ideal S64x2048 .f32) (l : FVec Ideal S64x1 .f32) (q : Fin 2048) :
    k0_pay57 w l (ix2 0 q) = least (fun k => l (ix2 k 0)) (col w q) := by
  unfold k0_pay57
  pointwise
  simp only [ratio_at]
  rw [RefOps.inf_eq]
  exact fold_min _

/-- The position of a column's first least ratio, as a real. -/
theorem index_at (w : FVec Ideal S64x2048 .f32) (l : FVec Ideal S64x1 .f32) (q : Fin 2048) :
    k0_pay58 k0_pay3 w l (ix2 0 q) = (((pick (fun k => l (ix2 k 0)) (col w q)).val : ℝ) : EReal) := by
  unfold k0_pay58
  pointwise
  simp only [ratio_at, least_at, rows_at]
  rw [RefOps.inf_eq, const64]
  exact fold_min_index _ _ rfl

/-- The mask marks that position. -/
theorem mask_at (w : FVec Ideal S64x2048 .f32) (l : FVec Ideal S64x1 .f32) (j : Fin 64) (q : Fin 2048) :
    k0_pay59 k0_pay3 w l (ix2 j q) = BitVec.ofBool (j = (pick (fun k => l (ix2 k 0)) (col w q))) := by
  unfold k0_pay59
  pointwise
  simp only [index_at, rows_at]
  congr 2
  norm_cast
  exact propext Fin.val_inj

/-- The hidden unit a round makes in a column. -/
theorem unit_at (h : FVec Ideal S64x2048 .f32) (L : FVec Ideal S1x64 .f32) (q : Fin 2048) :
    k0_pay61 h L (ix2 0 q) = unit (fun k => L (ix2 0 k)) (col h q) := by
  unfold k0_pay61 k0_pay60
  pointwise
  rfl

/-- A column's weights after a round. -/
theorem w_at (w : FVec Ideal S64x2048 .f32) (l : FVec Ideal S64x1 .f32) (j : Fin 64) (q : Fin 2048) :
    k0_pay62 k0_pay3 w l (ix2 j q) = wNext (fun k => l (ix2 k 0)) (col w q) j := by
  unfold k0_pay62 k0_pay55
  pointwise
  rw [mask_at, least_at]
  unfold wNext
  by_cases e : j = pick (fun k => l (ix2 k 0)) (col w q) <;> simp [e, Scalar.select, col]

/-- A column's hidden units after a round. -/
theorem h_at (w h : FVec Ideal S64x2048 .f32) (l : FVec Ideal S64x1 .f32) (L : FVec Ideal S1x64 .f32) (j : Fin 64) (q : Fin 2048) :
    k0_pay63 k0_pay3 w h l L (ix2 j q) = put (fun k => l (ix2 k 0)) (col w q) (unit (fun k => L (ix2 0 k)) (col h q)) (col h q) j := by
  unfold k0_pay63
  pointwise
  rw [mask_at, unit_at]
  unfold put
  by_cases e : j = pick (fun k => l (ix2 k 0)) (col w q) <;> simp [e, Scalar.select, col]

/-- A column's features after a round. -/
theorem f_at (w f : FVec Ideal S64x2048 .f32) (l : FVec Ideal S64x1 .f32) (L : FVec Ideal S1x64 .f32) (b : EReal) (j : Fin 64) (q : Fin 2048) :
    k0_pay64 k0_pay3 w f l L b (ix2 j q) = put (fun k => l (ix2 k 0)) (col w q) (feat (fun k => L (ix2 0 k)) b (col f q)) (col f q) j := by
  unfold k0_pay64 k0_pay60
  pointwise
  rw [mask_at]
  unfold put
  by_cases e : j = pick (fun k => l (ix2 k 0)) (col w q) <;> simp [e, Scalar.select, col, feat]

/-- The column of a block that an entry of its two-axis form is in. -/
def cell (r : Fin 16) (k : Fin 128) : Fin 2048 := ⟨r.val * 128 + k.val, by omega⟩

/-- The positions in the two-axis form of a block. -/
theorem idx3_at (w : FVec Ideal S64x2048 .f32) (l : FVec Ideal S64x1 .f32) (r : Fin 16) (k : Fin 128) :
    k0_pay65 k0_pay3 w l (ix3 0 r k) = k0_pay58 k0_pay3 w l (ix2 0 (cell r k)) := by
  unfold k0_pay65
  pointwise
  rfl
/-- A position written as a real and read back is itself. -/
theorem pos_back (i : Fin 64) : (FloatOps.fptosi (F := Ideal) (φ := .f32) 32 ((i.val : ℝ) : EReal) : BitVec 32) = BitVec.ofNat 32 i.val := by
  show Ideal.fptosi 32 ((i.val : ℝ) : EReal) = _
  rw [Ideal.fptosi, Ideal.toIntClamped_coe, if_pos (Nat.cast_nonneg _), Int.floor_natCast]
  have := i.isLt
  have e : max (-((2 ^ (32 - 1) : ℕ) : ℤ)) (min (((2 ^ (32 - 1) : ℕ) : ℤ) - 1) (i.val : ℤ)) = (i.val : ℤ) := by
    norm_num
    omega
  rw [e, BitVec.ofInt_natCast]

/-- Two positions agree as words exactly when they agree. -/
theorem pos_eq (j i : Fin 64) : IntOp.cmpi .eq (BitVec.ofNat 32 j.val) (BitVec.ofNat 32 i.val) = BitVec.ofBool (j = i) := by
  have := i.isLt
  have := j.isLt
  have e : (BitVec.ofNat 32 j.val == BitVec.ofNat 32 i.val) = decide (j = i) := by
    rw [Bool.eq_iff_iff]
    simp only [beq_iff_eq, decide_eq_true_eq]
    refine ⟨fun h => ?_, fun h => h ▸ rfl⟩
    have := congrArg BitVec.toNat h
    simp only [BitVec.toNat_ofNat] at this
    exact Fin.ext (by omega)
  exact congrArg BitVec.ofBool e

/-- The written units after a round, in the two-axis form: the new unit at the position, the old ones elsewhere. -/
theorem h3_at (h3 : FVec Ideal S64x16x128 .f32) (n : FVec Ideal S1x2048 .f32) (w : FVec Ideal S64x2048 .f32)
    (l : FVec Ideal S64x1 .f32) (j : Fin 64) (r : Fin 16) (k : Fin 128) :
    k0_pay66 kernelRun0_A.sl.v19 h3 n (k0_pay65 k0_pay3 w l) (ix3 j r k)
      = if j = pick (fun k => l (ix2 k 0)) (col w (cell r k)) then n (ix2 0 (cell r k)) else h3 (ix3 j r k) := by
  unfold k0_pay66 kernelRun0_A.sl.v19
  pointwise
  rw [idx3_at, index_at, pos_back, pos_eq]
  show Scalar.select _ (n (ix2 0 (cell r k))) _ = _
  by_cases e : j = pick (fun k => l (ix2 k 0)) (col w (cell r k)) <;> simp [e, Scalar.select]

/-- The feature a round makes in a column. -/
theorem feat_at (f : FVec Ideal S64x2048 .f32) (L : FVec Ideal S1x64 .f32) (b : EReal) (q : Fin 2048) :
    k0_pay73 f L b (ix2 0 q) = feat (fun k => L (ix2 0 k)) b (col f q) := by
  unfold k0_pay73 k0_pay71
  pointwise
  rfl

/-- The last round's sum of weights times features, its last features put in on the way. -/
theorem out_at (w f : FVec Ideal S64x2048 .f32) (l : FVec Ideal S64x1 .f32) (L : FVec Ideal S1x64 .f32) (b : EReal) (q : Fin 2048) :
    k0_pay1 f (k0_pay59 k0_pay3 w l) (k0_pay73 f L b) (k0_pay62 k0_pay3 w l) (ix2 0 q)
      = ∑ j, k0_pay62 k0_pay3 w l (ix2 j q) * k0_pay64 k0_pay3 w f l L b (ix2 j q) := by
  unfold k0_pay1
  pointwise
  refine Finset.sum_congr rfl fun j _ => congrArg _ ?_
  rw [f_at, mask_at, feat_at]
  unfold put
  by_cases e : j = pick (fun k => l (ix2 k 0)) (col w q) <;> simp [e, Scalar.select, col]

/-- What the kernel carries from round to round: weights, features and units of a block, the units also in the
    two-axis form it writes. -/
structure Block where
  w : FVec Ideal S64x2048 .f32
  f : FVec Ideal S64x2048 .f32
  h : FVec Ideal S64x2048 .f32
  h3 : FVec Ideal S64x16x128 .f32

/-- The block the kernel starts from. -/
def Block.start (x0 : FVec Ideal S63x2048 .f32) (x1 x2 : FVec Ideal S64x1 .f32) (x3 : FVec Ideal S64x1x128 .f32) : Block :=
  ⟨k0_pay2 x0, k0_pay4 x2, k0_pay5 x1, k0_pay6 x3⟩

/-- A round of the kernel. -/
def Block.next (s : Block) (l : FVec Ideal S64x1 .f32) (L : FVec Ideal S1x64 .f32) (b : EReal) : Block :=
  ⟨k0_pay62 k0_pay3 s.w l, k0_pay64 k0_pay3 s.w s.f l L b, k0_pay63 k0_pay3 s.w s.h l L,
    k0_pay66 kernelRun0_A.sl.v19 s.h3 (k0_pay61 s.h L) (k0_pay65 k0_pay3 s.w l)⟩

/-- The weights after a round, spelled out. -/
theorem Block.next_w (s : Block) (l : FVec Ideal S64x1 .f32) (L : FVec Ideal S1x64 .f32) (b : EReal) :
    (s.next l L b).w = k0_pay62 (F := Ideal) k0_pay3 s.w l := by
  unfold Block.next
  dsimp only

/-- The features after a round, spelled out. -/
theorem Block.next_f (s : Block) (l : FVec Ideal S64x1 .f32) (L : FVec Ideal S1x64 .f32) (b : EReal) :
    (s.next l L b).f = k0_pay64 (F := Ideal) k0_pay3 s.w s.f l L b := by
  unfold Block.next
  dsimp only

/-- The units after a round, spelled out. -/
theorem Block.next_h (s : Block) (l : FVec Ideal S64x1 .f32) (L : FVec Ideal S1x64 .f32) (b : EReal) :
    (s.next l L b).h = k0_pay63 (F := Ideal) k0_pay3 s.w s.h l L := by
  unfold Block.next
  dsimp only

/-- The written units after a round, spelled out. -/
theorem Block.next_h3 (s : Block) (l : FVec Ideal S64x1 .f32) (L : FVec Ideal S1x64 .f32) (b : EReal) :
    (s.next l L b).h3 = k0_pay66 (F := Ideal) kernelRun0_A.sl.v19 s.h3 (k0_pay61 s.h L) (k0_pay65 k0_pay3 s.w l) := by
  unfold Block.next
  dsimp only

/-- The block's column of the cell `(r, k)` holds the state `t`. -/
structure Block.At (s : Block) (r : Fin 16) (k : Fin 128) (t : St) : Prop where
  w : col s.w (cell r k) = t.w
  f : col s.f (cell r k) = t.f
  h : col s.h (cell r k) = t.h
  h3 : ∀ j, s.h3 (ix3 j r k) = t.h j

/-- The starting block holds the starting state. -/
theorem Block.start_at (x0 : FVec Ideal S63x2048 .f32) (x1 x2 : FVec Ideal S64x1 .f32) (x3 : FVec Ideal S64x1x128 .f32)
    (r : Fin 16) (k : Fin 128) (h3 : ∀ j, x3 (ix3 j 0 k) = x1 (ix2 j 0)) :
    (Block.start x0 x1 x2 x3).At r k ⟨wStart fun i => x0 (ix2 i (cell r k)), fun j => x2 (ix2 j 0), fun j => x1 (ix2 j 0)⟩ where
  w := funext fun j => by
    show k0_pay2 (F := Ideal) x0 (ix2 j (cell r k)) = _
    unfold k0_pay2
    pointwise
    refine Fin.cases ?_ (fun i => ?_) j
    · simp [wStart]
    · simp [wStart]
  f := funext fun j => by
    show k0_pay4 (F := Ideal) x2 (ix2 j (cell r k)) = _
    unfold k0_pay4
    pointwise
  h := funext fun j => by
    show k0_pay5 (F := Ideal) x1 (ix2 j (cell r k)) = _
    unfold k0_pay5
    pointwise
  h3 j := by
    show k0_pay6 (F := Ideal) x3 (ix3 j r k) = _
    unfold k0_pay6
    pointwise
    exact h3 j

/-- The unit a round makes from a state. -/
theorem Block.unit_at {s : Block} {r : Fin 16} {k : Fin 128} {t : St} (h : s.At r k t) (L : FVec Ideal S1x64 .f32) :
    k0_pay61 s.h L (ix2 0 (cell r k)) = unit (fun j => L (ix2 0 j)) t.h := by
  rw [KerRound.unit_at, h.h]

/-- A round of the kernel takes the state to the next one. -/
theorem Block.next_at {s : Block} {r : Fin 16} {k : Fin 128} {t : St} (h : s.At r k t) (l : FVec Ideal S64x1 .f32)
    (L : FVec Ideal S1x64 .f32) (b : EReal) (hL : ∀ j, L (ix2 0 j) = l (ix2 j 0)) :
    (s.next l L b).At r k (t.next (fun j => l (ix2 j 0)) b) := by
  have e : (fun j => L (ix2 0 j)) = fun j => l (ix2 j 0) := funext hL
  exact {
    w := funext fun j => by
      show (s.next l L b).w (ix2 j (cell r k)) = _
      rw [Block.next_w, w_at, h.w]
      rfl
    f := funext fun j => by
      show (s.next l L b).f (ix2 j (cell r k)) = _
      rw [Block.next_f, f_at, h.w, h.f, e]
      rfl
    h := funext fun j => by
      show (s.next l L b).h (ix2 j (cell r k)) = _
      rw [Block.next_h, h_at, h.w, h.h, e]
      rfl
    h3 := fun j => by
      rw [Block.next_h3, h3_at, Block.unit_at h, h.w, h.h3, e]
      rfl }

/-- The sum the kernel writes, from the state before its last round. -/
theorem Block.out_at {s : Block} {r : Fin 16} {k : Fin 128} {t : St} (h : s.At r k t) (l : FVec Ideal S64x1 .f32)
    (L : FVec Ideal S1x64 .f32) (b : EReal) (hL : ∀ j, L (ix2 0 j) = l (ix2 j 0)) :
    k0_pay1 s.f (k0_pay59 k0_pay3 s.w l) (k0_pay73 s.f L b) (k0_pay62 k0_pay3 s.w l) (ix2 0 (cell r k))
      = result (t.next (fun j => l (ix2 j 0)) b) := by
  have n := Block.next_at h l L b hL
  rw [KerRound.out_at, ← Block.next_f s l L b, ← Block.next_w s l L b]
  exact Finset.sum_congr rfl fun j _ => congrArg₂ (· * ·) (congrFun n.w j) (congrFun n.f j)

end Cert.KerRound

end
-- ==== Proof.KerBlock.lean ====
/- What one run of the kernel's body leaves in its thirteen output blocks: each cell's state after every round, the units
   the rounds make, and the last product. -/
module

public import proofs.«01_k».proof.Proof.KerRound
public import Idealize.ShloMosaic.Lib.Pipeline.ValueKit.Tiles

@[expose] public section

set_option maxRecDepth 16384

noncomputable section

namespace Cert.KerBlock

open Cert.KernelIdeal Cert.KernelIdeal.Gen Cert.Spec Cert.KerRound
open Idealize.ShloMosaic Idealize.ShloMosaic.TcCoe Idealize.ShloMosaic.StableHlo Idealize.SL.Sem

/-- The zero offsets of a block of two axes. -/
theorem hz : (![0, 0] : Fin 2 → Nat) = fun _ => 0 := funext fun a => by fin_cases a <;> rfl

/-- The zero offsets of a block of three axes. -/
theorem hz3 : (![0, 0, 0] : Fin 3 → Nat) = fun _ => 0 := funext fun a => by fin_cases a <;> rfl

/-- One store over the whole of a block leaves the stored vector. -/
theorem one_store {S : Shape} {e : EltTy} {κ : Kind} {sp : Space} (v : View sig κ sp S e) (f : v.ty.Contents (Elt Ideal))
    {off : Fin S.rank → ℕ} (h : off = fun _ => 0) (inb : ∀ a, off a + S.size a ≤ S.size a) (w : Vec Ideal S e) :
    v.read (Elt Ideal) (v.writes (Elt Ideal) f [⟨Rect.unit off S.size inb, w⟩]) = w := by
  subst h
  rw [View.read_writes_eq_canon _ _ _ (fun y => ⟨_, List.mem_singleton_self _, by
    show y ∈ (Rect.whole S).set
    rw [Rect.set_whole]
    exact Finset.mem_univ y⟩), View.canon_unit_zero rfl]

/-- A load of one row of `L`. -/
theorem row_at (a : Memref sig .tc .vmem S6x64 .f32) (ha : a.IsWhole) (x : Vec Ideal S6x64 .f32) (i : Fin 6)
    (inb : ∀ k, (![i.val, 0] : Fin 2 → ℕ) k + S1x64.size k ≤ S6x64.size k) (j : Fin 64) :
    View.readAt (Elt Ideal) a.view (Rect.unit (s := S6x64) ![i.val, 0] S1x64.size inb).toLoadRect (ha.unread x) (ix2 0 j) = x (ix2 i j) := by
  rw [View.readAt_eq_ld, ha.read_unread]
  exact View.ld_unit_apply_of _ _ _ _ _ _ fun k => by fin_cases k <;> simp [ix2]

/-- A load of one column of the transposed `L`. -/
theorem column_at (a : Memref sig .tc .vmem S64x6 .f32) (ha : a.IsWhole) (x : Vec Ideal S64x6 .f32) (i : Fin 6)
    (inb : ∀ k, (![0, i.val] : Fin 2 → ℕ) k + S64x1.size k ≤ S64x6.size k) (j : Fin 64) :
    View.readAt (Elt Ideal) a.view (Rect.unit (s := S64x6) ![0, i.val] S64x1.size inb).toLoadRect (ha.unread x) (ix2 j 0) = x (ix2 j i) := by
  rw [View.readAt_eq_ld, ha.read_unread]
  exact View.ld_unit_apply_of _ _ _ _ _ _ fun k => by fin_cases k <;> simp [ix2]

/-- A load of one bias. -/
theorem bias_at (a : Memref sig .tc .smem S6x1 .f32) (ha : a.IsWhole) (x : Vec Ideal S6x1 .f32) (i : Fin 6)
    (inb : ∀ k, (![i.val, 0] : Fin 2 → ℕ) k + S1x1.size k ≤ S6x1.size k) (y : S1x1.Idx) :
    View.readAt (Elt Ideal) a.view (Rect.unit (s := S6x1) ![i.val, 0] S1x1.size inb).toLoadRect (ha.unread x) y = x (ix2 i 0) := by
  obtain ⟨p, q, rfl⟩ : ∃ (p q : Fin 1), y = ix2 p q := ⟨y 0, y 1, eq_ix2 y⟩
  rw [View.readAt_eq_ld, ha.read_unread]
  exact View.ld_unit_apply_of _ _ _ _ _ _ fun k => by fin_cases k <;> simp [ix2]

/-- The state a cell starts from, out of the blocks the body reads. -/
def startOf (x0 : Vec Ideal S63x2048 .f32) (x1 x2 : Vec Ideal S64x1 .f32) (r : Fin 16) (k : Fin 128) : St :=
  ⟨wStart fun i => x0 (ix2 i (cell r k)), fun j => x2 (ix2 j 0), fun j => x1 (ix2 j 0)⟩

/-- A cell's state after `i` rounds. -/
def stateOf (x0 : Vec Ideal S63x2048 .f32) (x1 x2 : Vec Ideal S64x1 .f32) (x4 : Vec Ideal S6x64 .f32) (x6 : Vec Ideal S6x1 .f32)
    (r : Fin 16) (k : Fin 128) (i : ℕ) : St := state (startOf x0 x1 x2 r k) (RefValue.lOf x4) (RefValue.bOf x6) i

/-- Thirteen blocks that hold, in the cell `(r, k)`, what the states `t` and the coefficients `l` give. -/
structure Wrote (l : ℕ → Fin 64 → EReal) (t : ℕ → St) (r : Fin 16) (k : Fin 128) (y7 : Vec Ideal S1x2048 .f32)
    (y8 : Vec Ideal S64x16x128 .f32) (y9 : Vec Ideal S1x2048 .f32) (y10 : Vec Ideal S64x16x128 .f32) (y11 : Vec Ideal S1x2048 .f32)
    (y12 : Vec Ideal S64x16x128 .f32) (y13 : Vec Ideal S1x2048 .f32) (y14 : Vec Ideal S64x16x128 .f32) (y15 : Vec Ideal S1x2048 .f32)
    (y16 : Vec Ideal S64x16x128 .f32) (y17 : Vec Ideal S1x2048 .f32) (y18 : Vec Ideal S64x16x128 .f32) (y19 : Vec Ideal S1x2048 .f32) :
    Prop where
  out : y7 (ix2 0 (cell r k)) = result (t 6)
  h0 : ∀ j, y8 (ix3 j r k) = (t 0).h j
  h1 : ∀ j, y10 (ix3 j r k) = (t 1).h j
  h2 : ∀ j, y12 (ix3 j r k) = (t 2).h j
  h3 : ∀ j, y14 (ix3 j r k) = (t 3).h j
  h4 : ∀ j, y16 (ix3 j r k) = (t 4).h j
  h5 : ∀ j, y18 (ix3 j r k) = (t 5).h j
  n0 : y9 (ix2 0 (cell r k)) = unit (l 0) (t 0).h
  n1 : y11 (ix2 0 (cell r k)) = unit (l 1) (t 1).h
  n2 : y13 (ix2 0 (cell r k)) = unit (l 2) (t 2).h
  n3 : y15 (ix2 0 (cell r k)) = unit (l 3) (t 3).h
  n4 : y17 (ix2 0 (cell r k)) = unit (l 4) (t 4).h
  n5 : y19 (ix2 0 (cell r k)) = unit (l 5) (t 5).h

/-- A round of the kernel takes the state after `i` rounds to the one after `i + 1`. -/
theorem next (x5 : Vec Ideal S64x6 .f32) (x4 : Vec Ideal S6x64 .f32) (x6 : Vec Ideal S6x1 .f32) (hx : ∀ i j, x5 (ix2 j i) = x4 (ix2 i j))
    {s : Block} {r : Fin 16} {k : Fin 128} {t : St} (i : Fin 6) (h : s.At r k (state t (RefValue.lOf x4) (RefValue.bOf x6) i.val))
    {l : FVec Ideal S64x1 .f32} {L : FVec Ideal S1x64 .f32} {b : EReal} (hl : ∀ j, l (ix2 j 0) = x5 (ix2 j i))
    (hL : ∀ j, L (ix2 0 j) = x4 (ix2 i j)) (hb : b = x6 (ix2 i 0)) {w f h' : FVec Ideal S64x2048 .f32} {h3 : FVec Ideal S64x16x128 .f32}
    (ew : w = k0_pay62 k0_pay3 s.w l) (ef : f = k0_pay64 k0_pay3 s.w s.f l L b) (eh : h' = k0_pay63 k0_pay3 s.w s.h l L)
    (e3 : h3 = k0_pay66 kernelRun0_A.sl.v19 s.h3 (k0_pay61 s.h L) (k0_pay65 k0_pay3 s.w l)) :
    Block.At ⟨w, f, h', h3⟩ r k (state t (RefValue.lOf x4) (RefValue.bOf x6) (i.val + 1)) := by
  have e := Block.next_at h l L b fun j => by rw [hl, hL, hx]
  have hl' : (fun j => l (ix2 j 0)) = RefValue.lOf x4 i.val := funext fun j => by
    rw [hl, hx, RefValue.lOf, dif_pos i.isLt]
  have hb' : b = RefValue.bOf x6 i.val := by rw [hb, RefValue.bOf, dif_pos i.isLt]
  rw [hl'] at e
  subst ew ef eh e3
  rw [state, ← hb']
  exact e

/-- The sum the kernel writes after its last round. -/
theorem last (x5 : Vec Ideal S64x6 .f32) (x4 : Vec Ideal S6x64 .f32) (x6 : Vec Ideal S6x1 .f32) (hx : ∀ i j, x5 (ix2 j i) = x4 (ix2 i j))
    {w f h : FVec Ideal S64x2048 .f32} {h3 : FVec Ideal S64x16x128 .f32} {r : Fin 16} {k : Fin 128} {t : St} (i : Fin 6)
    (hs : Block.At ⟨w, f, h, h3⟩ r k (state t (RefValue.lOf x4) (RefValue.bOf x6) i.val))
    {l : FVec Ideal S64x1 .f32} {L : FVec Ideal S1x64 .f32} {b : EReal} (hl : ∀ j, l (ix2 j 0) = x5 (ix2 j i))
    (hL : ∀ j, L (ix2 0 j) = x4 (ix2 i j)) (hb : b = x6 (ix2 i 0)) :
    k0_pay1 f (k0_pay59 k0_pay3 w l) (k0_pay73 f L b) (k0_pay62 k0_pay3 w l) (ix2 0 (cell r k))
      = result (state t (RefValue.lOf x4) (RefValue.bOf x6) (i.val + 1)) := by
  have e := Block.out_at hs l L b fun j => by rw [hl, hL, hx]
  have hl' : (fun j => l (ix2 j 0)) = RefValue.lOf x4 i.val := funext fun j => by
    rw [hl, hx, RefValue.lOf, dif_pos i.isLt]
  have hb' : b = RefValue.bOf x6 i.val := by rw [hb, RefValue.bOf, dif_pos i.isLt]
  rw [hl'] at e
  rw [state, ← hb']
  exact e

/-- The unit made in round `i`. -/
theorem unitOf (x4 : Vec Ideal S6x64 .f32) {w f h : FVec Ideal S64x2048 .f32} {h3 : FVec Ideal S64x16x128 .f32} {r : Fin 16}
    {k : Fin 128} {t : St} (i : Fin 6) (hs : Block.At ⟨w, f, h, h3⟩ r k t) {L : FVec Ideal S1x64 .f32} (hL : ∀ j, L (ix2 0 j) = x4 (ix2 i j)) :
    k0_pay61 h L (ix2 0 (cell r k)) = unit (RefValue.lOf x4 i.val) t.h := by
  have hl : (fun j => L (ix2 0 j)) = RefValue.lOf x4 i.val := funext fun j => by rw [hL, RefValue.lOf, dif_pos i.isLt]
  have e := Block.unit_at hs L
  rw [hl] at e
  exact e

/-- What one run of the body leaves in its output blocks. -/
theorem wrote (c : Dev nD) (i : grid0.Coords) (arg1 : Memref sig .tc .vmem S63x2048 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1x128 .f32) (harg4 : arg4.IsWhole) (arg5 : Memref sig .tc .vmem S6x64 .f32) (harg5 : arg5.IsWhole) (arg6 : Memref sig .tc .vmem S64x6 .f32) (harg6 : arg6.IsWhole) (arg7 : Memref sig .tc .smem S6x1 .f32) (harg7 : arg7.IsWhole) (arg8 : Memref sig .tc .vmem S1x2048 .f32) (harg8 : arg8.IsWhole) (arg9 : Memref sig .tc .vmem S64x16x128 .f32) (harg9 : arg9.IsWhole) (arg10 : Memref sig .tc .vmem S1x2048 .f32) (harg10 : arg10.IsWhole) (arg11 : Memref sig .tc .vmem S64x16x128 .f32) (harg11 : arg11.IsWhole) (arg12 : Memref sig .tc .vmem S1x2048 .f32) (harg12 : arg12.IsWhole) (arg13 : Memref sig .tc .vmem S64x16x128 .f32) (harg13 : arg13.IsWhole) (arg14 : Memref sig .tc .vmem S1x2048 .f32) (harg14 : arg14.IsWhole) (arg15 : Memref sig .tc .vmem S64x16x128 .f32) (harg15 : arg15.IsWhole) (arg16 : Memref sig .tc .vmem S1x2048 .f32) (harg16 : arg16.IsWhole) (arg17 : Memref sig .tc .vmem S64x16x128 .f32) (harg17 : arg17.IsWhole) (arg18 : Memref sig .tc .vmem S1x2048 .f32) (harg18 : arg18.IsWhole) (arg19 : Memref sig .tc .vmem S64x16x128 .f32) (harg19 : arg19.IsWhole) (arg20 : Memref sig .tc .vmem S1x2048 .f32) (harg20 : arg20.IsWhole)
    (x0 : Vec Ideal S63x2048 .f32) (x1 : Vec Ideal S64x1 .f32) (x2 : Vec Ideal S64x1 .f32) (x3 : Vec Ideal S64x1x128 .f32) (x4 : Vec Ideal S6x64 .f32) (x5 : Vec Ideal S64x6 .f32) (x6 : Vec Ideal S6x1 .f32)
    (hx : ∀ i j, x5 (ix2 j i) = x4 (ix2 i j)) (h3 : ∀ j k, x3 (ix3 j 0 k) = x1 (ix2 j 0)) (r : Fin 16) (k : Fin 128) :
    Wrote (RefValue.lOf x4) (stateOf x0 x1 x2 x4 x6 r k) r k
      (out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6)
      (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  have e0 : View.readAt (Elt Ideal) arg1.view (Rect.unit ![0, 0] S63x2048.size inb_S63x2048_S63x2048_0_0).toLoadRect (harg1.unread x0) = x0 := by
    rw [View.readAt_eq_ld, harg1.read_unread, View.ld_unit_zero (S := S63x2048) hz]
  have e1 : View.readAt (Elt Ideal) arg2.view (Rect.unit ![0, 0] S64x1.size inb_S64x1_S64x1_0_0).toLoadRect (harg2.unread x1) = x1 := by
    rw [View.readAt_eq_ld, harg2.read_unread, View.ld_unit_zero (S := S64x1) hz]
  have e2 : View.readAt (Elt Ideal) arg3.view (Rect.unit ![0, 0] S64x1.size inb_S64x1_S64x1_0_0).toLoadRect (harg3.unread x2) = x2 := by
    rw [View.readAt_eq_ld, harg3.read_unread, View.ld_unit_zero (S := S64x1) hz]
  have e3 : View.readAt (Elt Ideal) arg4.view (Rect.unit ![0, 0, 0] S64x1x128.size inb_S64x1x128_S64x1x128_0_0_0).toLoadRect (harg4.unread x3) = x3 := by
    rw [View.readAt_eq_ld, harg4.read_unread, View.ld_unit_zero (S := S64x1x128) hz3]
  have b0 : Block.At ⟨(kernelRun0_A.sl.r c arg1 harg1 x0), (kernelRun0_A.sl.r_1 c arg3 harg3 x2), (kernelRun0_A.sl.r_2 c arg2 harg2 x1), (kernelRun0_A.sl.r_3 c arg4 harg4 x3)⟩ r k (stateOf x0 x1 x2 x4 x6 r k 0) := by
    have h := Block.start_at x0 x1 x2 x3 r k (fun j => h3 j k)
    unfold kernelRun0_A.sl.r kernelRun0_A.sl.r_1 kernelRun0_A.sl.r_2 kernelRun0_A.sl.r_3
    rw [e0, e1, e2, e3]
    exact h
  have b1 : Block.At ⟨(kernelRun0_A.sl.r_11 c arg1 harg1 arg6 harg6 x0 x5), (kernelRun0_A.sl.r_13 c arg1 harg1 arg3 harg3 arg5 harg5 arg6 harg6 arg7 harg7 x0 x2 x4 x5 x6), (kernelRun0_A.sl.r_12 c arg1 harg1 arg2 harg2 arg5 harg5 arg6 harg6 x0 x1 x4 x5), (kernelRun0_A.sl.r_14 c arg1 harg1 arg2 harg2 arg4 harg4 arg5 harg5 arg6 harg6 x0 x1 x3 x4 x5)⟩ r k (stateOf x0 x1 x2 x4 x6 r k 1) :=
    next x5 x4 x6 hx 0 b0 (l := View.readAt (Elt Ideal) arg6.view (Rect.unit (s := S64x6) ![0, 0] S64x1.size inb_S64x6_S64x1_0_0).toLoadRect (harg6.unread x5))
      (L := View.readAt (Elt Ideal) arg5.view (Rect.unit (s := S6x64) ![0, 0] S1x64.size inb_S6x64_S1x64_0_0).toLoadRect (harg5.unread x4)) (b := (kernelRun0_A.sl.r_10 c arg7 harg7 x6))
      (column_at arg6 harg6 x5 0 inb_S64x6_S64x1_0_0) (row_at arg5 harg5 x4 0 inb_S6x64_S1x64_0_0) (bias_at arg7 harg7 x6 0 inb_S6x1_S1x1_0_0 _) (by dsimp only; rfl) (by dsimp only; rfl) (by dsimp only; rfl) (by dsimp only; rfl)
  have b2 : Block.At ⟨(kernelRun0_A.sl.r_20 c arg1 harg1 arg6 harg6 x0 x5), (kernelRun0_A.sl.r_22 c arg1 harg1 arg3 harg3 arg5 harg5 arg6 harg6 arg7 harg7 x0 x2 x4 x5 x6), (kernelRun0_A.sl.r_21 c arg1 harg1 arg2 harg2 arg5 harg5 arg6 harg6 x0 x1 x4 x5), (kernelRun0_A.sl.r_23 c arg1 harg1 arg2 harg2 arg4 harg4 arg5 harg5 arg6 harg6 x0 x1 x3 x4 x5)⟩ r k (stateOf x0 x1 x2 x4 x6 r k 2) :=
    next x5 x4 x6 hx 1 b1 (l := View.readAt (Elt Ideal) arg6.view (Rect.unit (s := S64x6) ![0, 1] S64x1.size inb_S64x6_S64x1_0_1).toLoadRect (harg6.unread x5))
      (L := View.readAt (Elt Ideal) arg5.view (Rect.unit (s := S6x64) ![1, 0] S1x64.size inb_S6x64_S1x64_1_0).toLoadRect (harg5.unread x4)) (b := (kernelRun0_A.sl.r_19 c arg7 harg7 x6))
      (column_at arg6 harg6 x5 1 inb_S64x6_S64x1_0_1) (row_at arg5 harg5 x4 1 inb_S6x64_S1x64_1_0) (bias_at arg7 harg7 x6 1 inb_S6x1_S1x1_1_0 _) (by dsimp only; rfl) (by dsimp only; rfl) (by dsimp only; rfl) (by dsimp only; rfl)
  have b3 : Block.At ⟨(kernelRun0_A.sl.r_28 c arg1 harg1 arg6 harg6 x0 x5), (kernelRun0_A.sl.r_30 c arg1 harg1 arg3 harg3 arg5 harg5 arg6 harg6 arg7 harg7 x0 x2 x4 x5 x6), (kernelRun0_A.sl.r_29 c arg1 harg1 arg2 harg2 arg5 harg5 arg6 harg6 x0 x1 x4 x5), (kernelRun0_A.sl.r_31 c arg1 harg1 arg2 harg2 arg4 harg4 arg5 harg5 arg6 harg6 x0 x1 x3 x4 x5)⟩ r k (stateOf x0 x1 x2 x4 x6 r k 3) :=
    next x5 x4 x6 hx 2 b2 (l := View.readAt (Elt Ideal) arg6.view (Rect.unit (s := S64x6) ![0, 2] S64x1.size inb_S64x6_S64x1_0_2).toLoadRect (harg6.unread x5))
      (L := View.readAt (Elt Ideal) arg5.view (Rect.unit (s := S6x64) ![2, 0] S1x64.size inb_S6x64_S1x64_2_0).toLoadRect (harg5.unread x4)) (b := (kernelRun0_A.sl.r_27 c arg7 harg7 x6))
      (column_at arg6 harg6 x5 2 inb_S64x6_S64x1_0_2) (row_at arg5 harg5 x4 2 inb_S6x64_S1x64_2_0) (bias_at arg7 harg7 x6 2 inb_S6x1_S1x1_2_0 _) (by dsimp only; rfl) (by dsimp only; rfl) (by dsimp only; rfl) (by dsimp only; rfl)
  have b4 : Block.At ⟨(kernelRun0_A.sl.r_35 c arg1 harg1 arg6 harg6 x0 x5), (kernelRun0_A.sl.r_37 c arg1 harg1 arg3 harg3 arg5 harg5 arg6 harg6 arg7 harg7 x0 x2 x4 x5 x6), (kernelRun0_A.sl.r_36 c arg1 harg1 arg2 harg2 arg5 harg5 arg6 harg6 x0 x1 x4 x5), (kernelRun0_A.sl.r_38 c arg1 harg1 arg2 harg2 arg4 harg4 arg5 harg5 arg6 harg6 x0 x1 x3 x4 x5)⟩ r k (stateOf x0 x1 x2 x4 x6 r k 4) :=
    next x5 x4 x6 hx 3 b3 (l := View.readAt (Elt Ideal) arg6.view (Rect.unit (s := S64x6) ![0, 3] S64x1.size inb_S64x6_S64x1_0_3).toLoadRect (harg6.unread x5))
      (L := View.readAt (Elt Ideal) arg5.view (Rect.unit (s := S6x64) ![3, 0] S1x64.size inb_S6x64_S1x64_3_0).toLoadRect (harg5.unread x4)) (b := (kernelRun0_A.sl.r_34 c arg7 harg7 x6))
      (column_at arg6 harg6 x5 3 inb_S64x6_S64x1_0_3) (row_at arg5 harg5 x4 3 inb_S6x64_S1x64_3_0) (bias_at arg7 harg7 x6 3 inb_S6x1_S1x1_3_0 _) (by dsimp only; rfl) (by dsimp only; rfl) (by dsimp only; rfl) (by dsimp only; rfl)
  have b5 : Block.At ⟨(kernelRun0_A.sl.r_41 c arg1 harg1 arg6 harg6 x0 x5), (kernelRun0_A.sl.r_43 c arg1 harg1 arg3 harg3 arg5 harg5 arg6 harg6 arg7 harg7 x0 x2 x4 x5 x6), (kernelRun0_A.sl.r_42 c arg1 harg1 arg2 harg2 arg5 harg5 arg6 harg6 x0 x1 x4 x5), (k0_pay66 kernelRun0_A.sl.v19 (kernelRun0_A.sl.r_38 c arg1 harg1 arg2 harg2 arg4 harg4 arg5 harg5 arg6 harg6 x0 x1 x3 x4 x5) (kernelRun0_A.sl.r_40 c arg1 harg1 arg2 harg2 arg5 harg5 arg6 harg6 x0 x1 x4 x5) (kernelRun0_A.sl.r_44 c arg1 harg1 arg6 harg6 x0 x5))⟩ r k (stateOf x0 x1 x2 x4 x6 r k 5) :=
    next x5 x4 x6 hx 4 b4 (l := View.readAt (Elt Ideal) arg6.view (Rect.unit (s := S64x6) ![0, 4] S64x1.size inb_S64x6_S64x1_0_4).toLoadRect (harg6.unread x5))
      (L := View.readAt (Elt Ideal) arg5.view (Rect.unit (s := S6x64) ![4, 0] S1x64.size inb_S6x64_S1x64_4_0).toLoadRect (harg5.unread x4)) (b := (kernelRun0_A.sl.r_39 c arg7 harg7 x6))
      (column_at arg6 harg6 x5 4 inb_S64x6_S64x1_0_4) (row_at arg5 harg5 x4 4 inb_S6x64_S1x64_4_0) (bias_at arg7 harg7 x6 4 inb_S6x1_S1x1_4_0 _) (by dsimp only; rfl) (by dsimp only; rfl) (by dsimp only; rfl) (by dsimp only; rfl)
  have o7 : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = k0_pay1 (kernelRun0_A.sl.r_43 c arg1 harg1 arg3 harg3 arg5 harg5 arg6 harg6 arg7 harg7 x0 x2 x4 x5 x6) (k0_pay59 k0_pay3 (kernelRun0_A.sl.r_41 c arg1 harg1 arg6 harg6 x0 x5) (View.readAt (Elt Ideal) arg6.view (Rect.unit (s := S64x6) ![0, 5] S64x1.size inb_S64x6_S64x1_0_5).toLoadRect (harg6.unread x5)))
      (k0_pay73 (kernelRun0_A.sl.r_43 c arg1 harg1 arg3 harg3 arg5 harg5 arg6 harg6 arg7 harg7 x0 x2 x4 x5 x6) (View.readAt (Elt Ideal) arg5.view (Rect.unit (s := S6x64) ![5, 0] S1x64.size inb_S6x64_S1x64_5_0).toLoadRect (harg5.unread x4)) (kernelRun0_A.sl.r_45 c arg7 harg7 x6))
      (k0_pay62 k0_pay3 (kernelRun0_A.sl.r_41 c arg1 harg1 arg6 harg6 x0 x5) (View.readAt (Elt Ideal) arg6.view (Rect.unit (s := S64x6) ![0, 5] S64x1.size inb_S64x6_S64x1_0_5).toLoadRect (harg6.unread x5))) := by
    unfold out0_A_7 kernelRun0_A
    exact one_store _ _ hz _ _
  have o8 : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = (kernelRun0_A.sl.r_3 c arg4 harg4 x3) := by
    unfold out0_A_8 kernelRun0_A
    exact one_store _ _ hz3 _ _
  have o9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = k0_pay61 (kernelRun0_A.sl.r_2 c arg2 harg2 x1) (View.readAt (Elt Ideal) arg5.view (Rect.unit (s := S6x64) ![0, 0] S1x64.size inb_S6x64_S1x64_0_0).toLoadRect (harg5.unread x4)) := by
    unfold out0_A_9 kernelRun0_A
    exact one_store _ _ hz _ _
  have o10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = (kernelRun0_A.sl.r_14 c arg1 harg1 arg2 harg2 arg4 harg4 arg5 harg5 arg6 harg6 x0 x1 x3 x4 x5) := by
    unfold out0_A_10 kernelRun0_A
    exact one_store _ _ hz3 _ _
  have o11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = k0_pay61 (kernelRun0_A.sl.r_12 c arg1 harg1 arg2 harg2 arg5 harg5 arg6 harg6 x0 x1 x4 x5) (View.readAt (Elt Ideal) arg5.view (Rect.unit (s := S6x64) ![1, 0] S1x64.size inb_S6x64_S1x64_1_0).toLoadRect (harg5.unread x4)) := by
    unfold out0_A_11 kernelRun0_A
    exact one_store _ _ hz _ _
  have o12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = (kernelRun0_A.sl.r_23 c arg1 harg1 arg2 harg2 arg4 harg4 arg5 harg5 arg6 harg6 x0 x1 x3 x4 x5) := by
    unfold out0_A_12 kernelRun0_A
    exact one_store _ _ hz3 _ _
  have o13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = k0_pay61 (kernelRun0_A.sl.r_21 c arg1 harg1 arg2 harg2 arg5 harg5 arg6 harg6 x0 x1 x4 x5) (View.readAt (Elt Ideal) arg5.view (Rect.unit (s := S6x64) ![2, 0] S1x64.size inb_S6x64_S1x64_2_0).toLoadRect (harg5.unread x4)) := by
    unfold out0_A_13 kernelRun0_A
    exact one_store _ _ hz _ _
  have o14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = (kernelRun0_A.sl.r_31 c arg1 harg1 arg2 harg2 arg4 harg4 arg5 harg5 arg6 harg6 x0 x1 x3 x4 x5) := by
    unfold out0_A_14 kernelRun0_A
    exact one_store _ _ hz3 _ _
  have o15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = k0_pay61 (kernelRun0_A.sl.r_29 c arg1 harg1 arg2 harg2 arg5 harg5 arg6 harg6 x0 x1 x4 x5) (View.readAt (Elt Ideal) arg5.view (Rect.unit (s := S6x64) ![3, 0] S1x64.size inb_S6x64_S1x64_3_0).toLoadRect (harg5.unread x4)) := by
    unfold out0_A_15 kernelRun0_A
    exact one_store _ _ hz _ _
  have o16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = (kernelRun0_A.sl.r_38 c arg1 harg1 arg2 harg2 arg4 harg4 arg5 harg5 arg6 harg6 x0 x1 x3 x4 x5) := by
    unfold out0_A_16 kernelRun0_A
    exact one_store _ _ hz3 _ _
  have o17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = k0_pay61 (kernelRun0_A.sl.r_36 c arg1 harg1 arg2 harg2 arg5 harg5 arg6 harg6 x0 x1 x4 x5) (View.readAt (Elt Ideal) arg5.view (Rect.unit (s := S6x64) ![4, 0] S1x64.size inb_S6x64_S1x64_4_0).toLoadRect (harg5.unread x4)) := by
    unfold out0_A_17 kernelRun0_A
    exact one_store _ _ hz _ _
  have o18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = (k0_pay66 kernelRun0_A.sl.v19 (kernelRun0_A.sl.r_38 c arg1 harg1 arg2 harg2 arg4 harg4 arg5 harg5 arg6 harg6 x0 x1 x3 x4 x5) (kernelRun0_A.sl.r_40 c arg1 harg1 arg2 harg2 arg5 harg5 arg6 harg6 x0 x1 x4 x5) (kernelRun0_A.sl.r_44 c arg1 harg1 arg6 harg6 x0 x5)) := by
    unfold out0_A_18 kernelRun0_A
    exact one_store _ _ hz3 _ _
  have o19 : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 = k0_pay61 (kernelRun0_A.sl.r_42 c arg1 harg1 arg2 harg2 arg5 harg5 arg6 harg6 x0 x1 x4 x5) (View.readAt (Elt Ideal) arg5.view (Rect.unit (s := S6x64) ![5, 0] S1x64.size inb_S6x64_S1x64_5_0).toLoadRect (harg5.unread x4)) := by
    unfold out0_A_19 kernelRun0_A
    exact one_store _ _ hz _ _
  exact {
    out := by
      rw [o7]
      exact last (t := startOf x0 x1 x2 r k) x5 x4 x6 hx 5 b5 (l := View.readAt (Elt Ideal) arg6.view (Rect.unit (s := S64x6) ![0, 5] S64x1.size inb_S64x6_S64x1_0_5).toLoadRect (harg6.unread x5))
        (L := View.readAt (Elt Ideal) arg5.view (Rect.unit (s := S6x64) ![5, 0] S1x64.size inb_S6x64_S1x64_5_0).toLoadRect (harg5.unread x4)) (b := (kernelRun0_A.sl.r_45 c arg7 harg7 x6))
        (column_at arg6 harg6 x5 5 inb_S64x6_S64x1_0_5) (row_at arg5 harg5 x4 5 inb_S6x64_S1x64_5_0) (bias_at arg7 harg7 x6 5 inb_S6x1_S1x1_5_0 _)
    h0 := fun j => (congrFun o8 _).trans (b0.h3 j)
    h1 := fun j => (congrFun o10 _).trans (b1.h3 j)
    h2 := fun j => (congrFun o12 _).trans (b2.h3 j)
    h3 := fun j => (congrFun o14 _).trans (b3.h3 j)
    h4 := fun j => (congrFun o16 _).trans (b4.h3 j)
    h5 := fun j => (congrFun o18 _).trans (b5.h3 j)
    n0 := (congrFun o9 _).trans (unitOf x4 0 b0 (L := View.readAt (Elt Ideal) arg5.view (Rect.unit (s := S6x64) ![0, 0] S1x64.size inb_S6x64_S1x64_0_0).toLoadRect (harg5.unread x4))
      (row_at arg5 harg5 x4 0 inb_S6x64_S1x64_0_0))
    n1 := (congrFun o11 _).trans (unitOf x4 1 b1 (L := View.readAt (Elt Ideal) arg5.view (Rect.unit (s := S6x64) ![1, 0] S1x64.size inb_S6x64_S1x64_1_0).toLoadRect (harg5.unread x4))
      (row_at arg5 harg5 x4 1 inb_S6x64_S1x64_1_0))
    n2 := (congrFun o13 _).trans (unitOf x4 2 b2 (L := View.readAt (Elt Ideal) arg5.view (Rect.unit (s := S6x64) ![2, 0] S1x64.size inb_S6x64_S1x64_2_0).toLoadRect (harg5.unread x4))
      (row_at arg5 harg5 x4 2 inb_S6x64_S1x64_2_0))
    n3 := (congrFun o15 _).trans (unitOf x4 3 b3 (L := View.readAt (Elt Ideal) arg5.view (Rect.unit (s := S6x64) ![3, 0] S1x64.size inb_S6x64_S1x64_3_0).toLoadRect (harg5.unread x4))
      (row_at arg5 harg5 x4 3 inb_S6x64_S1x64_3_0))
    n4 := (congrFun o17 _).trans (unitOf x4 4 b4 (L := View.readAt (Elt Ideal) arg5.view (Rect.unit (s := S6x64) ![4, 0] S1x64.size inb_S6x64_S1x64_4_0).toLoadRect (harg5.unread x4))
      (row_at arg5 harg5 x4 4 inb_S6x64_S1x64_4_0))
    n5 := (congrFun o19 _).trans (unitOf x4 5 b5 (L := View.readAt (Elt Ideal) arg5.view (Rect.unit (s := S6x64) ![5, 0] S1x64.size inb_S6x64_S1x64_5_0).toLoadRect (harg5.unread x4))
      (row_at arg5 harg5 x4 5 inb_S6x64_S1x64_5_0)) }

end Cert.KerBlock

end
-- ==== Proof.KerArrays.lean ====
/- The kernel's thirteen result arrays after its run: each row's state after every round, the units the rounds make, and
   the last product. -/
module

public import proofs.«01_k».proof.Proof.KerBlock
public import Idealize.ShloMosaic.Lib.Pipeline.ValueKit.Geometry

@[expose] public section

set_option maxRecDepth 16384

noncomputable section

namespace Cert.KerArrays

open Cert.KernelIdeal Cert.KernelIdeal.Gen Cert.Spec Cert.KerRound
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-- Row `p`'s state after `i` rounds, from the contents of the five arguments. -/
def kState (p : Fin 131072) (i : ℕ) : St :=
  RefValue.stateOf (m ((c : Thread nD τ).loc main_arg0)) (m ((c : Thread nD τ).loc main_arg1)) (m ((c : Thread nD τ).loc main_arg2))
    (m ((c : Thread nD τ).loc main_arg3)) (m ((c : Thread nD τ).loc main_arg4)) p i

/-- The rows of `L` the rounds use. -/
def kRows (i : ℕ) : Fin 64 → EReal := RefValue.lOf (m ((c : Thread nD τ).loc main_arg4)) i

/-- The row of the whole batch that cell `(r, k)` of block `t` holds. -/
def row (t : Fin cfg0.N) (r : Fin 16) (k : Fin 128) : Fin 131072 :=
  ⟨t.val * 2048 + (r.val * 128 + k.val), by have : t.val < 64 := t.isLt; omega⟩

/-- The transposed batch as the region finds it. -/
theorem v0_at (j : Fin 63) (p : Fin 131072) :
    (V m c main_call0_v0 : FVec Ideal S63x131072 .f32) (ix2 j p) = m ((c : Thread nD τ).loc main_arg0) (ix2 p j) := by
  show after (List.flatten [hostOps0 (F := Ideal)]) (fun b => m (c, b)) (Proc.devRef .tc _) _ = _
  simp only [List.flatten_cons, List.flatten_nil, List.append_nil]
  after_results
  show transpose S63x131072 [1, 0] (m ((c : Thread nD τ).loc main_arg0) : FVec Ideal S131072x63 .f32) _ (ix2 j p) = _
  pointwise

/-- The weight vector `u` spread over the lanes, as the region finds it. -/
theorem v2_at (j : Fin 64) (k : Fin 128) :
    (V m c main_call0_v2 : FVec Ideal S64x1x128 .f32) (ix3 j 0 k) = m ((c : Thread nD τ).loc main_arg1) (ix2 j 0) := by
  show after (List.flatten [hostOps0 (F := Ideal)]) (fun b => m (c, b)) (Proc.devRef .tc _) _ = _
  simp only [List.flatten_cons, List.flatten_nil, List.append_nil]
  after_results
  show broadcastInDim S64x1x128 ![0, 1, 2] bcast_S64x1x1_S64x1x128_0_1_2 (broadcastInDim S64x1x1 ![0, 1] bcast_S64x1_S64x1x1_0_1
    (m ((c : Thread nD τ).loc main_arg1) : FVec Ideal S64x1 .f32)) (ix3 j 0 k) = _
  pointwise

/-- The transposed `L` as the region finds it. -/
theorem v3_at (i : Fin 6) (j : Fin 64) :
    (V m c main_call0_v3 : FVec Ideal S64x6 .f32) (ix2 j i) = m ((c : Thread nD τ).loc main_arg4) (ix2 i j) := by
  show after (List.flatten [hostOps0 (F := Ideal)]) (fun b => m (c, b)) (Proc.devRef .tc _) _ = _
  simp only [List.flatten_cons, List.flatten_nil, List.append_nil]
  after_results
  show transpose S64x6 [1, 0] (m ((c : Thread nD τ).loc main_arg4) : FVec Ideal S6x64 .f32) _ (ix2 j i) = _
  pointwise

/-! Which block of its array each window has at point `t`: the whole for the weight vectors, `L` and the biases, and
   the `t`-th along the rows for the batch and the results. -/

theorem e0 : ∀ t : Fin cfg0.N, win0_0.index t = ![0, t.val] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)

theorem e7 : ∀ t : Fin cfg0.N, win0_7.index t = ![0, t.val] := (by decide +kernel : ∀ t : Fin grid0.N, _)
theorem e8 : ∀ t : Fin cfg0.N, win0_8.index t = ![0, t.val, 0] := (by decide +kernel : ∀ t : Fin grid0.N, _)
theorem e9 : ∀ t : Fin cfg0.N, win0_9.index t = ![0, t.val] := (by decide +kernel : ∀ t : Fin grid0.N, _)
theorem e10 : ∀ t : Fin cfg0.N, win0_10.index t = ![0, t.val, 0] := (by decide +kernel : ∀ t : Fin grid0.N, _)
theorem e11 : ∀ t : Fin cfg0.N, win0_11.index t = ![0, t.val] := (by decide +kernel : ∀ t : Fin grid0.N, _)
theorem e12 : ∀ t : Fin cfg0.N, win0_12.index t = ![0, t.val, 0] := (by decide +kernel : ∀ t : Fin grid0.N, _)
theorem e13 : ∀ t : Fin cfg0.N, win0_13.index t = ![0, t.val] := (by decide +kernel : ∀ t : Fin grid0.N, _)
theorem e14 : ∀ t : Fin cfg0.N, win0_14.index t = ![0, t.val, 0] := (by decide +kernel : ∀ t : Fin grid0.N, _)
theorem e15 : ∀ t : Fin cfg0.N, win0_15.index t = ![0, t.val] := (by decide +kernel : ∀ t : Fin grid0.N, _)
theorem e16 : ∀ t : Fin cfg0.N, win0_16.index t = ![0, t.val, 0] := (by decide +kernel : ∀ t : Fin grid0.N, _)
theorem e17 : ∀ t : Fin cfg0.N, win0_17.index t = ![0, t.val] := (by decide +kernel : ∀ t : Fin grid0.N, _)
theorem e18 : ∀ t : Fin cfg0.N, win0_18.index t = ![0, t.val, 0] := (by decide +kernel : ∀ t : Fin grid0.N, _)
theorem e19 : ∀ t : Fin cfg0.N, win0_19.index t = ![0, t.val] := (by decide +kernel : ∀ t : Fin grid0.N, _)

/-- A block of the transposed batch: cell `(r, k)`'s features are its row's. -/
theorem i0_at (t : Fin cfg0.N) (j : Fin 63) (r : Fin 16) (k : Fin 128) :
    (iblk m c 0 t : FVec Ideal S63x2048 .f32) (ix2 j (cell r k)) = m ((c : Thread nD τ).loc main_arg0) (ix2 (row t r k) j) := by
  rw [← v0_at m c]
  blk_simp [iblk, e0]
  refine congrArg _ ?_
  blk_ext [e0]
  rfl

/-- The first weight vector's one block is the whole. -/
theorem i1_eq (t : Fin cfg0.N) : (iblk m c 1 t : FVec Ideal S64x1 .f32) = m ((c : Thread nD τ).loc main_arg1) := by
  rw [← V_main_arg1 m c]
  funext x
  blk_simp [iblk, e1]
  refine congrArg _ ?_
  blk_ext [e1]

/-- The second weight vector's one block is the whole. -/
theorem i2_eq (t : Fin cfg0.N) : (iblk m c 2 t : FVec Ideal S64x1 .f32) = m ((c : Thread nD τ).loc main_arg2) := by
  rw [← V_main_arg2 m c]
  funext x
  blk_simp [iblk, e2]
  refine congrArg _ ?_
  blk_ext [e2]

/-- The block of the spread weight vector. -/
theorem i3_at (t : Fin cfg0.N) (j : Fin 64) (k : Fin 128) :
    (iblk m c 3 t : FVec Ideal S64x1x128 .f32) (ix3 j 0 k) = m ((c : Thread nD τ).loc main_arg1) (ix2 j 0) := by
  rw [← v2_at m c j k]
  blk_simp [iblk, e3]
  refine congrArg _ ?_
  blk_ext [e3]

/-- The one block of `L` is the whole. -/
theorem i4_eq (t : Fin cfg0.N) : (iblk m c 4 t : FVec Ideal S6x64 .f32) = m ((c : Thread nD τ).loc main_arg4) := by
  rw [← V_main_arg4 m c]
  funext x
  blk_simp [iblk, e4]
  refine congrArg _ ?_
  blk_ext [e4]

/-- The block of the transposed `L`. -/
theorem i5_at (t : Fin cfg0.N) (i : Fin 6) (j : Fin 64) :
    (iblk m c 5 t : FVec Ideal S64x6 .f32) (ix2 j i) = m ((c : Thread nD τ).loc main_arg4) (ix2 i j) := by
  rw [← v3_at m c i j]
  blk_simp [iblk, e5]
  refine congrArg _ ?_
  blk_ext [e5]

/-- The biases' one block is the whole. -/
theorem i6_eq (t : Fin cfg0.N) : (iblk m c 6 t : FVec Ideal S6x1 .f32) = m ((c : Thread nD τ).loc main_arg3) := by
  rw [← V_main_arg3 m c]
  funext x
  blk_simp [iblk, e6]
  refine congrArg _ ?_
  blk_ext [e6]

/-- A cell's states, out of the blocks at point `t`, are its row's. -/
theorem state_eq (t : Fin cfg0.N) (r : Fin 16) (k : Fin 128) :
    KerBlock.stateOf (iblk m c 0 t) (iblk m c 1 t) (iblk m c 2 t) (iblk m c 4 t) (iblk m c 6 t) r k = kState m c (row t r k) := by
  funext i
  unfold KerBlock.stateOf KerBlock.startOf kState RefValue.stateOf RefValue.startOf
  rw [i1_eq, i2_eq, i4_eq, i6_eq]
  simp only [i0_at]

/-- The rows of `L` out of its block are `L`'s. -/
theorem rows_eq (t : Fin cfg0.N) : RefValue.lOf (iblk m c 4 t) = kRows m c := by
  funext i
  unfold kRows
  rw [i4_eq]

/-- What point `t` leaves in its output blocks. -/
theorem wroteAt (t : Fin cfg0.N) (r : Fin 16) (k : Fin 128) :
    KerBlock.Wrote (kRows m c) (kState m c (row t r k)) r k (outsAt0 m c t).1 (outsAt0 m c t).2.1 (outsAt0 m c t).2.2.1
      (outsAt0 m c t).2.2.2.1 (outsAt0 m c t).2.2.2.2.1 (outsAt0 m c t).2.2.2.2.2.1 (outsAt0 m c t).2.2.2.2.2.2.1
      (outsAt0 m c t).2.2.2.2.2.2.2.1 (outsAt0 m c t).2.2.2.2.2.2.2.2.1 (outsAt0 m c t).2.2.2.2.2.2.2.2.2.1
      (outsAt0 m c t).2.2.2.2.2.2.2.2.2.2.1 (outsAt0 m c t).2.2.2.2.2.2.2.2.2.2.2.1 (outsAt0 m c t).2.2.2.2.2.2.2.2.2.2.2.2 := by
  have h := KerBlock.wrote c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t)
    (iblk m c 0 t) (iblk m c 1 t) (iblk m c 2 t) (iblk m c 3 t) (iblk m c 4 t) (iblk m c 5 t) (iblk m c 6 t)
    (fun i j => (i5_at m c t i j).trans (congrFun (i4_eq m c t) _).symm)
    (fun j k => (i3_at m c t j k).trans (congrFun (i1_eq m c t) _).symm) r k
  rw [state_eq, rows_eq] at h
  dsimp only [outsAt0]
  exact h

/-- An array of one value per row. -/
def lanes (v : Fin 131072 → EReal) : FVec Ideal S1x131072 .f32 := fun i => v (i 1)

/-- An array of sixty-four values per row, the rows in lines of 128. -/
def tiles (v : Fin 131072 → Fin 64 → EReal) : FVec Ideal S64x1024x128 .f32 :=
  fun i => v ⟨(i 1).val * 128 + (i 2).val, by have h1 : (i 1).val < 1024 := (i 1).isLt; have h2 : (i 2).val < 128 := (i 2).isLt; omega⟩ (i 0)

/-- A block of one value per cell is its part of the whole array. -/
theorem lane_of (t : Fin cfg0.N) (g : FVec Ideal S1x2048 .f32) (v : Fin 131072 → EReal)
    (H : ∀ r k, g (ix2 0 (cell r k)) = v (row t r k)) (z : S1x2048.Idx) (i : S1x131072.Idx)
    (h : (i 1).val = t.val * 2048 + (z 1).val) : g z = lanes v i := by
  have hz : (z 1).val < 2048 := (z 1).isLt
  have e := H ⟨(z 1).val / 128, by omega⟩ ⟨(z 1).val % 128, by omega⟩
  have ez : z = ix2 0 (cell ⟨(z 1).val / 128, by omega⟩ ⟨(z 1).val % 128, by omega⟩) := by
    refine (eq_ix2 z).trans ?_
    refine congrArg₂ _ (Subsingleton.elim (α := Fin 1) _ _) (Fin.ext ?_)
    show (z 1).val = (z 1).val / 128 * 128 + (z 1).val % 128
    omega
  rw [ez, e]
  refine congrArg v (Fin.ext ?_)
  show t.val * 2048 + ((z 1).val / 128 * 128 + (z 1).val % 128) = (i 1).val
  omega

/-- A block of sixty-four values per cell is its part of the whole array. -/
theorem tile_of (t : Fin cfg0.N) (g : FVec Ideal S64x16x128 .f32) (v : Fin 131072 → Fin 64 → EReal)
    (H : ∀ r k j, g (ix3 j r k) = v (row t r k) j) (z : S64x16x128.Idx) (i : S64x1024x128.Idx)
    (h : (i 0).val = (z 0).val ∧ (i 1).val = t.val * 16 + (z 1).val ∧ (i 2).val = (z 2).val) : g z = tiles v i := by
  refine (congrArg g (eq_ix3 z)).trans ((H _ _ _).trans ?_)
  refine congrArg₂ v (Fin.ext ?_) (Fin.ext h.1.symm)
  show t.val * 2048 + ((z 1).val * 128 + (z 2).val) = (i 1).val * 128 + (i 2).val
  omega

/-- The array of the last products. -/
theorem arr7 : (dats m 0 c).arrAt 7 cfg0.N = lanes fun p => result (kState m c p 6) := by
  refine (dats m 0 c).arrAt_eq_of_covers 7 (lanes fun p => result (kState m c p 6)) (by decide +kernel) fun t _ y => ?_
  rw [after0_7]
  refine lane_of t _ (fun p => result (kState m c p 6)) (fun r k => (wroteAt m c t r k).out) _ _ ?_
  blk_simp [e7]

/-- The array of the third state vectors after 0 rounds. -/
theorem arr8 : (dats m 0 c).arrAt 8 cfg0.N = tiles fun p => (kState m c p 0).h := by
  refine (dats m 0 c).arrAt_eq_of_covers 8 (tiles fun p => (kState m c p 0).h) (by decide +kernel) fun t _ y => ?_
  rw [after0_8]
  refine tile_of t _ (fun p => (kState m c p 0).h) (fun r k => (wroteAt m c t r k).h0) _ _ ?_
  blk_simp [e8]
  exact ⟨trivial, trivial, trivial⟩

/-- The array of round 0's units. -/
theorem arr9 : (dats m 0 c).arrAt 9 cfg0.N = lanes fun p => unit (kRows m c 0) (kState m c p 0).h := by
  refine (dats m 0 c).arrAt_eq_of_covers 9 (lanes fun p => unit (kRows m c 0) (kState m c p 0).h) (by decide +kernel) fun t _ y => ?_
  rw [after0_9]
  refine lane_of t _ (fun p => unit (kRows m c 0) (kState m c p 0).h) (fun r k => (wroteAt m c t r k).n0) _ _ ?_
  blk_simp [e9]

/-- The array of the third state vectors after 1 rounds. -/
theorem arr10 : (dats m 0 c).arrAt 10 cfg0.N = tiles fun p => (kState m c p 1).h := by
  refine (dats m 0 c).arrAt_eq_of_covers 10 (tiles fun p => (kState m c p 1).h) (by decide +kernel) fun t _ y => ?_
  rw [after0_10]
  refine tile_of t _ (fun p => (kState m c p 1).h) (fun r k => (wroteAt m c t r k).h1) _ _ ?_
  blk_simp [e10]
  exact ⟨trivial, trivial, trivial⟩

/-- The array of round 1's units. -/
theorem arr11 : (dats m 0 c).arrAt 11 cfg0.N = lanes fun p => unit (kRows m c 1) (kState m c p 1).h := by
  refine (dats m 0 c).arrAt_eq_of_covers 11 (lanes fun p => unit (kRows m c 1) (kState m c p 1).h) (by decide +kernel) fun t _ y => ?_
  rw [after0_11]
  refine lane_of t _ (fun p => unit (kRows m c 1) (kState m c p 1).h) (fun r k => (wroteAt m c t r k).n1) _ _ ?_
  blk_simp [e11]

/-- The array of the third state vectors after 2 rounds. -/
theorem arr12 : (dats m 0 c).arrAt 12 cfg0.N = tiles fun p => (kState m c p 2).h := by
  refine (dats m 0 c).arrAt_eq_of_covers 12 (tiles fun p => (kState m c p 2).h) (by decide +kernel) fun t _ y => ?_
  rw [after0_12]
  refine tile_of t _ (fun p => (kState m c p 2).h) (fun r k => (wroteAt m c t r k).h2) _ _ ?_
  blk_simp [e12]
  exact ⟨trivial, trivial, trivial⟩

/-- The array of round 2's units. -/
theorem arr13 : (dats m 0 c).arrAt 13 cfg0.N = lanes fun p => unit (kRows m c 2) (kState m c p 2).h := by
  refine (dats m 0 c).arrAt_eq_of_covers 13 (lanes fun p => unit (kRows m c 2) (kState m c p 2).h) (by decide +kernel) fun t _ y => ?_
  rw [after0_13]
  refine lane_of t _ (fun p => unit (kRows m c 2) (kState m c p 2).h) (fun r k => (wroteAt m c t r k).n2) _ _ ?_
  blk_simp [e13]

/-- The array of the third state vectors after 3 rounds. -/
theorem arr14 : (dats m 0 c).arrAt 14 cfg0.N = tiles fun p => (kState m c p 3).h := by
  refine (dats m 0 c).arrAt_eq_of_covers 14 (tiles fun p => (kState m c p 3).h) (by decide +kernel) fun t _ y => ?_
  rw [after0_14]
  refine tile_of t _ (fun p => (kState m c p 3).h) (fun r k => (wroteAt m c t r k).h3) _ _ ?_
  blk_simp [e14]
  exact ⟨trivial, trivial, trivial⟩

/-- The array of round 3's units. -/
theorem arr15 : (dats m 0 c).arrAt 15 cfg0.N = lanes fun p => unit (kRows m c 3) (kState m c p 3).h := by
  refine (dats m 0 c).arrAt_eq_of_covers 15 (lanes fun p => unit (kRows m c 3) (kState m c p 3).h) (by decide +kernel) fun t _ y => ?_
  rw [after0_15]
  refine lane_of t _ (fun p => unit (kRows m c 3) (kState m c p 3).h) (fun r k => (wroteAt m c t r k).n3) _ _ ?_
  blk_simp [e15]

/-- The array of the third state vectors after 4 rounds. -/
theorem arr16 : (dats m 0 c).arrAt 16 cfg0.N = tiles fun p => (kState m c p 4).h := by
  refine (dats m 0 c).arrAt_eq_of_covers 16 (tiles fun p => (kState m c p 4).h) (by decide +kernel) fun t _ y => ?_
  rw [after0_16]
  refine tile_of t _ (fun p => (kState m c p 4).h) (fun r k => (wroteAt m c t r k).h4) _ _ ?_
  blk_simp [e16]
  exact ⟨trivial, trivial, trivial⟩

/-- The array of round 4's units. -/
theorem arr17 : (dats m 0 c).arrAt 17 cfg0.N = lanes fun p => unit (kRows m c 4) (kState m c p 4).h := by
  refine (dats m 0 c).arrAt_eq_of_covers 17 (lanes fun p => unit (kRows m c 4) (kState m c p 4).h) (by decide +kernel) fun t _ y => ?_
  rw [after0_17]
  refine lane_of t _ (fun p => unit (kRows m c 4) (kState m c p 4).h) (fun r k => (wroteAt m c t r k).n4) _ _ ?_
  blk_simp [e17]

/-- The array of the third state vectors after 5 rounds. -/
theorem arr18 : (dats m 0 c).arrAt 18 cfg0.N = tiles fun p => (kState m c p 5).h := by
  refine (dats m 0 c).arrAt_eq_of_covers 18 (tiles fun p => (kState m c p 5).h) (by decide +kernel) fun t _ y => ?_
  rw [after0_18]
  refine tile_of t _ (fun p => (kState m c p 5).h) (fun r k => (wroteAt m c t r k).h5) _ _ ?_
  blk_simp [e18]
  exact ⟨trivial, trivial, trivial⟩

/-- The array of round 5's units. -/
theorem arr19 : (dats m 0 c).arrAt 19 cfg0.N = lanes fun p => unit (kRows m c 5) (kState m c p 5).h := by
  refine (dats m 0 c).arrAt_eq_of_covers 19 (lanes fun p => unit (kRows m c 5) (kState m c p 5).h) (by decide +kernel) fun t _ y => ?_
  rw [after0_19]
  refine lane_of t _ (fun p => unit (kRows m c 5) (kState m c p 5).h) (fun r k => (wroteAt m c t r k).n5) _ _ ?_
  blk_simp [e19]

end Cert.KerArrays
-- ==== Proof.KerTail.lean ====
/- The kernel's thirteen results out of its thirteen arrays: the host's transposes and reshapes after the run. -/
module

public import proofs.«01_k».proof.Proof.KerArrays

@[expose] public section

set_option maxRecDepth 16384

noncomputable section

namespace Cert.KerTail

open Cert.KernelIdeal Cert.KernelIdeal.Gen Cert.Spec Cert.KerArrays
open Idealize.ShloMosaic Idealize.ShloMosaic.TcCoe Idealize.ShloMosaic.StableHlo Idealize.SL.Sem

/-- The result of one value per row, on three axes. -/
def column3 (v : Fin 131072 → EReal) : FVec Ideal S131072x1x1 .f32 := fun i => v (i 0)

/-- The result of one value per row, on two axes. -/
def column (v : Fin 131072 → EReal) : FVec Ideal S131072x1 .f32 := fun i => v (i 0)

/-- The result of sixty-four values per row. -/
def rows (v : Fin 131072 → Fin 64 → EReal) : FVec Ideal S131072x64x1 .f32 := fun i => v (i 0) (i 1)

/-- Two results of one value per row on three axes are equal if they are at every row. -/
theorem eq_column3 (x : FVec Ideal S131072x1x1 .f32) (v : Fin 131072 → EReal) (h : ∀ p, x (ix3 p (0 : Fin 1) (0 : Fin 1)) = v p) :
    x = column3 v := by
  funext i
  obtain ⟨p, q, r, rfl⟩ : ∃ (p : Fin 131072) (q r : Fin 1), i = ix3 p q r := ⟨i 0, i 1, i 2, eq_ix3 i⟩
  rw [Subsingleton.elim q 0, Subsingleton.elim r 0]
  exact h p

/-- Two results of one value per row on two axes are equal if they are at every row. -/
theorem eq_column (x : FVec Ideal S131072x1 .f32) (v : Fin 131072 → EReal) (h : ∀ p, x (ix2 p (0 : Fin 1)) = v p) :
    x = column v := by
  funext i
  obtain ⟨p, q, rfl⟩ : ∃ (p : Fin 131072) (q : Fin 1), i = ix2 p q := ⟨i 0, i 1, eq_ix2 i⟩
  rw [Subsingleton.elim q 0]
  exact h p

/-- Two results of sixty-four values per row are equal if they are at every row and value. -/
theorem eq_rows (x : FVec Ideal S131072x64x1 .f32) (v : Fin 131072 → Fin 64 → EReal)
    (h : ∀ p j, x (ix3 p j (0 : Fin 1)) = v p j) : x = rows v := by
  funext i
  obtain ⟨p, j, r, rfl⟩ : ∃ (p : Fin 131072) (j : Fin 64) (r : Fin 1), i = ix3 p j r := ⟨i 0, i 1, i 2, eq_ix3 i⟩
  rw [Subsingleton.elim r 0]
  exact h p j

/-- One value per row, turned into a column and given a third axis. -/
theorem column3_of (v : Fin 131072 → EReal) :
    shapeCast S131072x1x1 (transpose S131072x1 [1, 0] (lanes v) transposes_S1x131072_S131072x1_1_0) shapeCasts_S131072x1_S131072x1x1
      = column3 v := by
  refine eq_column3 _ _ fun p => ?_
  pointwise
  rfl

/-- One value per row, turned into a column. -/
theorem column_of (v : Fin 131072 → EReal) :
    transpose S131072x1 [1, 0] (lanes v) transposes_S1x131072_S131072x1_1_0 = column v := by
  refine eq_column _ _ fun p => ?_
  pointwise
  rfl

/-- Sixty-four values per row, the rows' two axes put first and merged. -/
theorem rows_of (v : Fin 131072 → Fin 64 → EReal) :
    shapeCast S131072x64x1 (transpose S1024x128x64 [1, 2, 0] (tiles v) transposes_S64x1024x128_S1024x128x64_1_2_0)
      shapeCasts_S1024x128x64_S131072x64x1 = rows v := by
  refine eq_rows _ _ fun p j => ?_
  pointwise
  refine congrArg₂ v (Fin.ext ?_) rfl
  show p.val / 128 * 128 + p.val % 128 = p.val
  omega

variable (U : Valuation τ sig (Elt Ideal))

/-- Result `v2` out of its array. -/
theorem tail_v2 (v) (h : (U (Proc.devRef .tc main_v0_0) : FVec Ideal S1x131072 .f32) = lanes v) :
    (after (List.flatten [hostOps1 (F := Ideal)]) U (Proc.devRef .tc main_v2) : FVec Ideal S131072x1x1 .f32) = column3 v := by
  simp only [List.flatten_cons, List.flatten_nil, List.append_nil]
  after_results
  rw [h]
  exact column3_of v

/-- Result `v4` out of its array. -/
theorem tail_v4 (v) (h : (U (Proc.devRef .tc main_v0_1) : FVec Ideal S64x1024x128 .f32) = tiles v) :
    (after (List.flatten [hostOps1 (F := Ideal)]) U (Proc.devRef .tc main_v4) : FVec Ideal S131072x64x1 .f32) = rows v := by
  simp only [List.flatten_cons, List.flatten_nil, List.append_nil]
  after_results
  rw [h]
  exact rows_of v

/-- Result `v5` out of its array. -/
theorem tail_v5 (v) (h : (U (Proc.devRef .tc main_v0_2) : FVec Ideal S1x131072 .f32) = lanes v) :
    (after (List.flatten [hostOps1 (F := Ideal)]) U (Proc.devRef .tc main_v5) : FVec Ideal S131072x1 .f32) = column v := by
  simp only [List.flatten_cons, List.flatten_nil, List.append_nil]
  after_results
  rw [h]
  exact column_of v

/-- Result `v7` out of its array. -/
theorem tail_v7 (v) (h : (U (Proc.devRef .tc main_v0_3) : FVec Ideal S64x1024x128 .f32) = tiles v) :
    (after (List.flatten [hostOps1 (F := Ideal)]) U (Proc.devRef .tc main_v7) : FVec Ideal S131072x64x1 .f32) = rows v := by
  simp only [List.flatten_cons, List.flatten_nil, List.append_nil]
  after_results
  rw [h]
  exact rows_of v

/-- Result `v8` out of its array. -/
theorem tail_v8 (v) (h : (U (Proc.devRef .tc main_v0_4) : FVec Ideal S1x131072 .f32) = lanes v) :
    (after (List.flatten [hostOps1 (F := Ideal)]) U (Proc.devRef .tc main_v8) : FVec Ideal S131072x1 .f32) = column v := by
  simp only [List.flatten_cons, List.flatten_nil, List.append_nil]
  after_results
  rw [h]
  exact column_of v

/-- Result `v10` out of its array. -/
theorem tail_v10 (v) (h : (U (Proc.devRef .tc main_v0_5) : FVec Ideal S64x1024x128 .f32) = tiles v) :
    (after (List.flatten [hostOps1 (F := Ideal)]) U (Proc.devRef .tc main_v10) : FVec Ideal S131072x64x1 .f32) = rows v := by
  simp only [List.flatten_cons, List.flatten_nil, List.append_nil]
  after_results
  rw [h]
  exact rows_of v

/-- Result `v11` out of its array. -/
theorem tail_v11 (v) (h : (U (Proc.devRef .tc main_v0_6) : FVec Ideal S1x131072 .f32) = lanes v) :
    (after (List.flatten [hostOps1 (F := Ideal)]) U (Proc.devRef .tc main_v11) : FVec Ideal S131072x1 .f32) = column v := by
  simp only [List.flatten_cons, List.flatten_nil, List.append_nil]
  after_results
  rw [h]
  exact column_of v

/-- Result `v13` out of its array. -/
theorem tail_v13 (v) (h : (U (Proc.devRef .tc main_v0_7) : FVec Ideal S64x1024x128 .f32) = tiles v) :
    (after (List.flatten [hostOps1 (F := Ideal)]) U (Proc.devRef .tc main_v13) : FVec Ideal S131072x64x1 .f32) = rows v := by
  simp only [List.flatten_cons, List.flatten_nil, List.append_nil]
  after_results
  rw [h]
  exact rows_of v

/-- Result `v14` out of its array. -/
theorem tail_v14 (v) (h : (U (Proc.devRef .tc main_v0_8) : FVec Ideal S1x131072 .f32) = lanes v) :
    (after (List.flatten [hostOps1 (F := Ideal)]) U (Proc.devRef .tc main_v14) : FVec Ideal S131072x1 .f32) = column v := by
  simp only [List.flatten_cons, List.flatten_nil, List.append_nil]
  after_results
  rw [h]
  exact column_of v

/-- Result `v16` out of its array. -/
theorem tail_v16 (v) (h : (U (Proc.devRef .tc main_v0_9) : FVec Ideal S64x1024x128 .f32) = tiles v) :
    (after (List.flatten [hostOps1 (F := Ideal)]) U (Proc.devRef .tc main_v16) : FVec Ideal S131072x64x1 .f32) = rows v := by
  simp only [List.flatten_cons, List.flatten_nil, List.append_nil]
  after_results
  rw [h]
  exact rows_of v

/-- Result `v17` out of its array. -/
theorem tail_v17 (v) (h : (U (Proc.devRef .tc main_v0_10) : FVec Ideal S1x131072 .f32) = lanes v) :
    (after (List.flatten [hostOps1 (F := Ideal)]) U (Proc.devRef .tc main_v17) : FVec Ideal S131072x1 .f32) = column v := by
  simp only [List.flatten_cons, List.flatten_nil, List.append_nil]
  after_results
  rw [h]
  exact column_of v

/-- Result `v19` out of its array. -/
theorem tail_v19 (v) (h : (U (Proc.devRef .tc main_v0_11) : FVec Ideal S64x1024x128 .f32) = tiles v) :
    (after (List.flatten [hostOps1 (F := Ideal)]) U (Proc.devRef .tc main_v19) : FVec Ideal S131072x64x1 .f32) = rows v := by
  simp only [List.flatten_cons, List.flatten_nil, List.append_nil]
  after_results
  rw [h]
  exact rows_of v

/-- Result `v20` out of its array. -/
theorem tail_v20 (v) (h : (U (Proc.devRef .tc main_v0_12) : FVec Ideal S1x131072 .f32) = lanes v) :
    (after (List.flatten [hostOps1 (F := Ideal)]) U (Proc.devRef .tc main_v20) : FVec Ideal S131072x1 .f32) = column v := by
  simp only [List.flatten_cons, List.flatten_nil, List.append_nil]
  after_results
  rw [h]
  exact column_of v

variable (m : (ℓ : Loc nD τ sig) → Buf (Elt Ideal) ℓ) (ρ : Dev nD → PrngReg)

/-- The contents the tail starts from: every array as the run leaves it. -/
abbrev arrays (c : Dev nD) : Valuation τ sig (Elt Ideal) :=
  Pipeline.withArrays spec0 c (V0 m c) fun w => (dats m 0 c).arrAt w cfg0.N

/-- An array of the run, as the tail finds it. -/
theorem arrays_at (c : Dev nD) (w : Fin 20) :
    arrays m c (Proc.devRef .tc (Pipeline.arrRef spec0 w)) = (dats m 0 c).arrAt w cfg0.N :=
  Pipeline.withArrays_arr spec0 (by decide) c _ _ w

/-- The kernel's run: its thirteen results at every row's values, its arguments unchanged. -/
theorem run : θ_run defs (onTc (τ := τ) (main (F := Ideal))) ⟨m, fun _ => 0, ρ⟩ fun r => ∀ c : Dev nD,
      r.2.mem ((c.tc : Thread nD τ).loc main_v2) = (column3 fun p => result (kState m c p 6))
      ∧ r.2.mem ((c.tc : Thread nD τ).loc main_v4) = (rows fun p => (kState m c p 0).h)
      ∧ r.2.mem ((c.tc : Thread nD τ).loc main_v5) = (column fun p => unit (kRows m c 0) (kState m c p 0).h)
      ∧ r.2.mem ((c.tc : Thread nD τ).loc main_v7) = (rows fun p => (kState m c p 1).h)
      ∧ r.2.mem ((c.tc : Thread nD τ).loc main_v8) = (column fun p => unit (kRows m c 1) (kState m c p 1).h)
      ∧ r.2.mem ((c.tc : Thread nD τ).loc main_v10) = (rows fun p => (kState m c p 2).h)
      ∧ r.2.mem ((c.tc : Thread nD τ).loc main_v11) = (column fun p => unit (kRows m c 2) (kState m c p 2).h)
      ∧ r.2.mem ((c.tc : Thread nD τ).loc main_v13) = (rows fun p => (kState m c p 3).h)
      ∧ r.2.mem ((c.tc : Thread nD τ).loc main_v14) = (column fun p => unit (kRows m c 3) (kState m c p 3).h)
      ∧ r.2.mem ((c.tc : Thread nD τ).loc main_v16) = (rows fun p => (kState m c p 4).h)
      ∧ r.2.mem ((c.tc : Thread nD τ).loc main_v17) = (column fun p => unit (kRows m c 4) (kState m c p 4).h)
      ∧ r.2.mem ((c.tc : Thread nD τ).loc main_v19) = (rows fun p => (kState m c p 5).h)
      ∧ r.2.mem ((c.tc : Thread nD τ).loc main_v20) = (column fun p => unit (kRows m c 5) (kState m c p 5).h)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  refine ⟨(h.rest_eq c main_v2 (Pipeline.mem_restRefs_of main_v2 (by decide) (by decide))).trans (tail_v2 (arrays m c) _ ((arrays_at m c 7).trans (arr7 m c))),
    (h.rest_eq c main_v4 (Pipeline.mem_restRefs_of main_v4 (by decide) (by decide))).trans (tail_v4 (arrays m c) _ ((arrays_at m c 8).trans (arr8 m c))),
    (h.rest_eq c main_v5 (Pipeline.mem_restRefs_of main_v5 (by decide) (by decide))).trans (tail_v5 (arrays m c) _ ((arrays_at m c 9).trans (arr9 m c))),
    (h.rest_eq c main_v7 (Pipeline.mem_restRefs_of main_v7 (by decide) (by decide))).trans (tail_v7 (arrays m c) _ ((arrays_at m c 10).trans (arr10 m c))),
    (h.rest_eq c main_v8 (Pipeline.mem_restRefs_of main_v8 (by decide) (by decide))).trans (tail_v8 (arrays m c) _ ((arrays_at m c 11).trans (arr11 m c))),
    (h.rest_eq c main_v10 (Pipeline.mem_restRefs_of main_v10 (by decide) (by decide))).trans (tail_v10 (arrays m c) _ ((arrays_at m c 12).trans (arr12 m c))),
    (h.rest_eq c main_v11 (Pipeline.mem_restRefs_of main_v11 (by decide) (by decide))).trans (tail_v11 (arrays m c) _ ((arrays_at m c 13).trans (arr13 m c))),
    (h.rest_eq c main_v13 (Pipeline.mem_restRefs_of main_v13 (by decide) (by decide))).trans (tail_v13 (arrays m c) _ ((arrays_at m c 14).trans (arr14 m c))),
    (h.rest_eq c main_v14 (Pipeline.mem_restRefs_of main_v14 (by decide) (by decide))).trans (tail_v14 (arrays m c) _ ((arrays_at m c 15).trans (arr15 m c))),
    (h.rest_eq c main_v16 (Pipeline.mem_restRefs_of main_v16 (by decide) (by decide))).trans (tail_v16 (arrays m c) _ ((arrays_at m c 16).trans (arr16 m c))),
    (h.rest_eq c main_v17 (Pipeline.mem_restRefs_of main_v17 (by decide) (by decide))).trans (tail_v17 (arrays m c) _ ((arrays_at m c 17).trans (arr17 m c))),
    (h.rest_eq c main_v19 (Pipeline.mem_restRefs_of main_v19 (by decide) (by decide))).trans (tail_v19 (arrays m c) _ ((arrays_at m c 18).trans (arr18 m c))),
    (h.rest_eq c main_v20 (Pipeline.mem_restRefs_of main_v20 (by decide) (by decide))).trans (tail_v20 (arrays m c) _ ((arrays_at m c 19).trans (arr19 m c))),
    (h.rest_eq c main_arg0 (Pipeline.mem_restRefs_of main_arg0 (by decide) (by decide))).trans (W_main_arg0 m (dats m) c),
    (h.in_eq c 1 rfl).trans ((A_eq m c 1).trans (V_main_arg1 m c)), (h.in_eq c 2 rfl).trans ((A_eq m c 2).trans (V_main_arg2 m c)),
    (h.in_eq c 6 rfl).trans ((A_eq m c 6).trans (V_main_arg3 m c)), (h.in_eq c 4 rfl).trans ((A_eq m c 4).trans (V_main_arg4 m c))⟩

end Cert.KerTail
-- ==== Proof.RefTail.lean ====
/- The reference's run: its thirteen results at every row's values. -/
module

public import proofs.«01_k».proof.Proof.KerTail

@[expose] public section

set_option maxRecDepth 16384

noncomputable section

namespace Cert.RefTail

open Cert.ReferenceIdeal Cert.ReferenceIdeal.Gen Cert.Straight Cert.RefRun Cert.RefStep Cert.RefValue Cert.Spec
open Cert.KerTail (column3 column rows eq_column3 eq_column eq_rows)
open Idealize.ShloMosaic Idealize.ShloMosaic.TcCoe Idealize.ShloMosaic.StableHlo Idealize.SL.Sem

/-- Contents that hold every row's results hold the thirteen results. -/
theorem whole (V U : Vals) (H : ∀ p, Results V U p) :
    (U (Proc.devRef .tc main_v44) : FVec Ideal S131072x1x1 .f32) = (column3 fun p => result (stateAt V p 6))
      ∧ (U (Proc.devRef .tc main_v7) : FVec Ideal S131072x64x1 .f32) = (rows fun p => (stateAt V p 0).h)
      ∧ (U (Proc.devRef .tc main_v17_3) : FVec Ideal S131072x1 .f32) = (column fun p => unit (lOf (V (Proc.devRef .tc main_arg4)) 0) (stateAt V p 0).h)
      ∧ (U (Proc.devRef .tc main_v17_2) : FVec Ideal S131072x64x1 .f32) = (rows fun p => (stateAt V p 1).h)
      ∧ (U (Proc.devRef .tc main_v22_3) : FVec Ideal S131072x1 .f32) = (column fun p => unit (lOf (V (Proc.devRef .tc main_arg4)) 1) (stateAt V p 1).h)
      ∧ (U (Proc.devRef .tc main_v22_2) : FVec Ideal S131072x64x1 .f32) = (rows fun p => (stateAt V p 2).h)
      ∧ (U (Proc.devRef .tc main_v27_3) : FVec Ideal S131072x1 .f32) = (column fun p => unit (lOf (V (Proc.devRef .tc main_arg4)) 2) (stateAt V p 2).h)
      ∧ (U (Proc.devRef .tc main_v27_2) : FVec Ideal S131072x64x1 .f32) = (rows fun p => (stateAt V p 3).h)
      ∧ (U (Proc.devRef .tc main_v32_3) : FVec Ideal S131072x1 .f32) = (column fun p => unit (lOf (V (Proc.devRef .tc main_arg4)) 3) (stateAt V p 3).h)
      ∧ (U (Proc.devRef .tc main_v32_2) : FVec Ideal S131072x64x1 .f32) = (rows fun p => (stateAt V p 4).h)
      ∧ (U (Proc.devRef .tc main_v37_3) : FVec Ideal S131072x1 .f32) = (column fun p => unit (lOf (V (Proc.devRef .tc main_arg4)) 4) (stateAt V p 4).h)
      ∧ (U (Proc.devRef .tc main_v37_2) : FVec Ideal S131072x64x1 .f32) = (rows fun p => (stateAt V p 5).h)
      ∧ (U (Proc.devRef .tc main_v42_3) : FVec Ideal S131072x1 .f32) = (column fun p => unit (lOf (V (Proc.devRef .tc main_arg4)) 5) (stateAt V p 5).h) :=
  ⟨eq_column3 _ _ (fun p => (H p).out),
    eq_rows _ _ (fun p j => (H p).h0 j),
    eq_column _ _ (fun p => (H p).n0),
    eq_rows _ _ (fun p j => (H p).h1 j),
    eq_column _ _ (fun p => (H p).n1),
    eq_rows _ _ (fun p j => (H p).h2 j),
    eq_column _ _ (fun p => (H p).n2),
    eq_rows _ _ (fun p j => (H p).h3 j),
    eq_column _ _ (fun p => (H p).n3),
    eq_rows _ _ (fun p j => (H p).h4 j),
    eq_column _ _ (fun p => (H p).n4),
    eq_rows _ _ (fun p j => (H p).h5 j),
    eq_column _ _ (fun p => (H p).n5)⟩

variable (m : (ℓ : Loc nD τ sig) → Buf (Elt Ideal) ℓ) (ρ : Dev nD → PrngReg)

/-- Row `p`'s state after `i` rounds, from the contents of the five arguments. -/
def rState (c : Dev nD) (p : Fin 131072) (i : ℕ) : St :=
  stateOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) p i

/-- The rows of `L` the rounds use. -/
def rRows (c : Dev nD) (i : ℕ) : Fin 64 → EReal := lOf (m ((c.tc : Thread nD τ).loc main_arg4)) i

/-- The reference's run: its thirteen results at every row's values, its arguments unchanged. -/
theorem run : θ_run defs (onTc (τ := τ) (main (F := Ideal))) ⟨m, fun _ => 0, ρ⟩ fun r => ∀ c : Dev nD,
      r.2.mem ((c.tc : Thread nD τ).loc main_v44) = (column3 fun p => result (rState m c p 6))
      ∧ r.2.mem ((c.tc : Thread nD τ).loc main_v7) = (rows fun p => (rState m c p 0).h)
      ∧ r.2.mem ((c.tc : Thread nD τ).loc main_v17_3) = (column fun p => unit (rRows m c 0) (rState m c p 0).h)
      ∧ r.2.mem ((c.tc : Thread nD τ).loc main_v17_2) = (rows fun p => (rState m c p 1).h)
      ∧ r.2.mem ((c.tc : Thread nD τ).loc main_v22_3) = (column fun p => unit (rRows m c 1) (rState m c p 1).h)
      ∧ r.2.mem ((c.tc : Thread nD τ).loc main_v22_2) = (rows fun p => (rState m c p 2).h)
      ∧ r.2.mem ((c.tc : Thread nD τ).loc main_v27_3) = (column fun p => unit (rRows m c 2) (rState m c p 2).h)
      ∧ r.2.mem ((c.tc : Thread nD τ).loc main_v27_2) = (rows fun p => (rState m c p 3).h)
      ∧ r.2.mem ((c.tc : Thread nD τ).loc main_v32_3) = (column fun p => unit (rRows m c 3) (rState m c p 3).h)
      ∧ r.2.mem ((c.tc : Thread nD τ).loc main_v32_2) = (rows fun p => (rState m c p 4).h)
      ∧ r.2.mem ((c.tc : Thread nD τ).loc main_v37_3) = (column fun p => unit (rRows m c 4) (rState m c p 4).h)
      ∧ r.2.mem ((c.tc : Thread nD τ).loc main_v37_2) = (rows fun p => (rState m c p 5).h)
      ∧ r.2.mem ((c.tc : Thread nD τ).loc main_v42_3) = (column fun p => unit (rRows m c 5) (rState m c p 5).h)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (RefRun.run m ρ)
  obtain ⟨r0, r1, r2, r3, r4, r5, r6, r7, r8, r9, r10, r11, r12⟩ := whole (launchContents m c) (after ops (launchContents m c)) (results _)
  exact ⟨(h c main_v44).trans r0,
    (h c main_v7).trans r1,
    (h c main_v17_3).trans r2,
    (h c main_v17_2).trans r3,
    (h c main_v22_3).trans r4,
    (h c main_v22_2).trans r5,
    (h c main_v27_3).trans r6,
    (h c main_v27_2).trans r7,
    (h c main_v32_3).trans r8,
    (h c main_v32_2).trans r9,
    (h c main_v37_3).trans r10,
    (h c main_v37_2).trans r11,
    (h c main_v42_3).trans r12,
    (h c main_arg0).trans (arg_kept _ main_arg0 (by simp)),
    (h c main_arg1).trans (arg_kept _ main_arg1 (by simp)),
    (h c main_arg2).trans (arg_kept _ main_arg2 (by simp)),
    (h c main_arg3).trans (arg_kept _ main_arg3 (by simp)),
    (h c main_arg4).trans (arg_kept _ main_arg4 (by simp))⟩

end Cert.RefTail
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefTail
public import Idealize.ShloMosaic.Adequacy
public import Idealize.ShloMosaic.Init

@[expose] public section

noncomputable section

namespace Cert.Proof

open Idealize.ShloMosaic Idealize.SL.Sem Cert.Kernel

/-- The two programs' rows start from the same arguments, so they go through the same states. -/
theorem state_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.RefTail.rState m' c = Cert.KerArrays.kState m c ∧ Cert.RefTail.rRows m' c = Cert.KerArrays.kRows m c := by
  unfold Cert.RefTail.rState Cert.KerArrays.kState Cert.RefTail.rRows Cert.KerArrays.kRows
  rw [h0, h1, h2, h3, h4]
  exact ⟨rfl, rfl⟩

/-- The kernel's thirteen results are the reference's. -/
theorem algebraic : Cert.algebraic_KernelIdeal_ReferenceIdeal := by
  intro m g m' g' _ hargs
  refine ⟨_, _, _, _, _, _, _, _, _, _, _, _, _, Cert.KerTail.run m g, ?_⟩
  refine (θ_run Cert.ReferenceIdeal.defs _ _).mono (fun r h c => ?_) (Cert.RefTail.run m' g')
  obtain ⟨h0, h1, h2, h3, h4⟩ := hargs c
  have e := state_eq m m' c h0 h1 h2 h3 h4
  rw [← e.1, ← e.2]
  exact h c

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.RefRun.frame m ρ, trivial, algebraic⟩

end Cert.Proof

end
